-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "sixth" .f32 0x3E2AAAAB#32 ((1 / 6 : ℝ) : EReal)
  ∧ IdealRules.sign_bit.Statement Cert.KernelIdeal.S1x512 .f32

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S8x2048x17 : Shape := ⟨3, ![8, 2048, 17]⟩
abbrev S8x2048x16 : Shape := ⟨3, ![8, 2048, 16]⟩

class Facts : Prop where
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  sliceFits_S8x2048x2048_S8x2048x17 : S8x2048x2048.Slices (fun _ => 0) S8x2048x17
  slices_S8x2048x17_S8x2048x16_0_0_0 : S8x2048x17.Slices ![0, 0, 0] S8x2048x16
  slices_S8x2048x17_S8x2048x16_0_0_1 : S8x2048x17.Slices ![0, 0, 1] S8x2048x16
  reducesTo_S8x2048x16_S_d0_1_2 : S8x2048x16.ReducesTo [0, 1, 2] S_

variable [Facts]

def fn {F : FTy → Type} [FloatOps F] (main_arg0 : FVec F S8x2048x3 .f32) : IVec S_ 1 :=
  let main_v0 : FVec F S8x2048x1x3 .f32 := broadcastInDim S8x2048x1x3 ![0, 1, 3] bcast_S8x2048x3_S8x2048x1x3_0_1_3 main_arg0
  let main_v1 : FVec F S8x1x2048x3 .f32 := broadcastInDim S8x1x2048x3 ![0, 2, 3] bcast_S8x2048x3_S8x1x2048x3_0_2_3 main_arg0
  let main_v2 : FVec F S8x2048x2048x3 .f32 := broadcastInDim S8x2048x2048x3 ![0, 1, 2, 3] bcast_S8x2048x1x3_S8x2048x2048x3_0_1_2_3 main_v0
  let main_v3 : FVec F S8x2048x2048x3 .f32 := broadcastInDim S8x2048x2048x3 ![0, 1, 2, 3] bcast_S8x1x2048x3_S8x2048x2048x3_0_1_2_3 main_v1
  let main_v4 : FVec F S8x2048x2048x3 .f32 := subf main_v2 main_v3
  let main_v5 : FVec F S8x2048x2048x3 .f32 := mulf main_v4 main_v4
  let main_cst : FVec F S_ .f32 := constant S_ .f32 0x00000000#32
  let main_v6 : FVec F S8x2048x2048 .f32 := (fun x v => Host.reduceAdd x v reducesTo_S8x2048x2048x3_S8x2048x2048_d3 h_S_) main_v5 main_cst
  let main_v7 : FVec F S8x2048x2048 .f32 := Host.negf main_v6
  let main_values : FVec F S8x2048x17 .f32 := (fun x => (Host.topK S8x2048x17 2 (FloatOps.cmpfTotal .gt) x sliceFits_S8x2048x2048_S8x2048x17).1) main_v7
  let main_indices : IVec S8x2048x17 32 := (fun x => (Host.topK S8x2048x17 2 (FloatOps.cmpfTotal .gt) x sliceFits_S8x2048x2048_S8x2048x17).2) main_v7
  let main_v8 : FVec F S8x2048x16 .f32 := (extractStridedSlice S8x2048x16 ![0, 0, 0] · slices_S8x2048x17_S8x2048x16_0_0_0) main_values
  let main_v9 : FVec F S8x2048x16 .f32 := (extractStridedSlice S8x2048x16 ![0, 0, 1] · slices_S8x2048x17_S8x2048x16_0_0_1) main_values
  let main_v10 : IVec S8x2048x16 1 := cmpf .ogt main_v8 main_v9
  let main_c : IVec S_ 1 := constantI S_ 1 1#1
  let main_v11 : IVec S_ 1 := (fun x v => Host.reduce IntOp.andi x v reducesTo_S8x2048x16_S_d0_1_2 h_S_) main_v10 main_c
  main_v11
-- ==== Kernel.lean ====
abbrev S8x2048x3 : Shape := ⟨3, ![8, 2048, 3]⟩
abbrev S8x3x2048 : Shape := ⟨3, ![8, 3, 2048]⟩
abbrev S8x4x2048 : Shape := ⟨3, ![8, 4, 2048]⟩
abbrev S8x2048x2048 : Shape := ⟨3, ![8, 2048, 2048]⟩
abbrev S1x2048x3 : Shape := ⟨3, ![1, 2048, 3]⟩
abbrev S1x3x512 : Shape := ⟨3, ![1, 3, 512]⟩
abbrev S1x4x512 : Shape := ⟨3, ![1, 4, 512]⟩
abbrev S1x2048x512 : Shape := ⟨3, ![1, 2048, 512]⟩
abbrev S2048x3 : Shape := ⟨2, ![2048, 3]⟩
abbrev S3x512 : Shape := ⟨2, ![3, 512]⟩
abbrev S2048x1 : Shape := ⟨2, ![2048, 1]⟩
abbrev S1x512 : Shape := ⟨2, ![1, 512]⟩
abbrev S2048x512 : Shape := ⟨2, ![2048, 512]⟩
abbrev S512 : Shape := ⟨1, ![512]⟩
abbrev S4x512 : Shape := ⟨2, ![4, 512]⟩
abbrev S8x2048x4 : Shape := ⟨3, ![8, 2048, 4]⟩
abbrev S8x9x2048 : Shape := ⟨3, ![8, 9, 2048]⟩
abbrev S1x2048x4 : Shape := ⟨3, ![1, 2048, 4]⟩
abbrev S1x9x512 : Shape := ⟨3, ![1, 9, 512]⟩
abbrev S2048x4 : Shape := ⟨2, ![2048, 4]⟩
abbrev S9x512 : Shape := ⟨2, ![9, 512]⟩
abbrev S8x2048x9 : Shape := ⟨3, ![8, 2048, 9]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x3, .f32⟩
  | .hbm, ⟨1, _⟩ => ⟨S8x3x2048, .f32⟩
  | .hbm, ⟨2, _⟩ => ⟨S8x4x2048, .f32⟩
  | .hbm, ⟨3, _⟩ => ⟨S8x2048x2048, .i8⟩
  | .hbm, ⟨4, _⟩ => ⟨S8x2048x4, .f32⟩
  | .hbm, ⟨5, _⟩ => ⟨S8x9x2048, .f32⟩
  | .hbm, ⟨6, _⟩ => ⟨S8x2048x9, .f32⟩
  | .local _ .vmem, ⟨0, _⟩ => ⟨S1x2048x3, .f32⟩
  | .local _ .vmem, ⟨1, _⟩ => ⟨S1x2048x3, .f32⟩
  | .local _ .vmem, ⟨2, _⟩ => ⟨S1x3x512, .f32⟩
  | .local _ .vmem, ⟨3, _⟩ => ⟨S1x3x512, .f32⟩
  | .local _ .vmem, ⟨4, _⟩ => ⟨S1x4x512, .f32⟩
  | .local _ .vmem, ⟨5, _⟩ => ⟨S1x4x512, .f32⟩
  | .local _ .vmem, ⟨6, _⟩ => ⟨S1x2048x512, .i8⟩
  | .local _ .vmem, ⟨7, _⟩ => ⟨S1x2048x512, .i8⟩
  | .local _ .vmem, ⟨8, _⟩ => ⟨S1x2048x512, .i8⟩
  | .local _ .vmem, ⟨9, _⟩ => ⟨S1x2048x512, .i8⟩
  | .local _ .vmem, ⟨10, _⟩ => ⟨S1x2048x4, .f32⟩
  | .local _ .vmem, ⟨11, _⟩ => ⟨S1x2048x4, .f32⟩
  | .local _ .vmem, ⟨12, _⟩ => ⟨S1x9x512, .f32⟩
  | .local _ .vmem, ⟨13, _⟩ => ⟨S1x9x512, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [BitOps F]

abbrev grid0 : Pipeline.Grid := ⟨2, ![8, 4], ![false, false]⟩

@[reducible] def k0_t1_loop : Scf.Loop 32 :=
  let c0_i32 : BitVec 32 := 0#32
  let c15_i32 : BitVec 32 := 15#32
  let v25 : BitVec 32 := Scalar.addi c0_i32 c15_i32
  let c1_i32 : BitVec 32 := 1#32
  ⟨c0_i32, v25, c1_i32⟩
@[reducible] def k0_t2_loop : Scf.Loop 32 :=
  let c0_i32_29 : BitVec 32 := 0#32
  let c22_i32 : BitVec 32 := 22#32
  let v153 : BitVec 32 := Scalar.addi c0_i32_29 c22_i32
  let c1_i32_30 : BitVec 32 := 1#32
  ⟨c0_i32_29, v153, c1_i32_30⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x512 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x9x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F] [Named F]
def κ : String → Option EReal := fun
  | "sixth" => some ((1 / 6 : ℝ) : EReal)
  | "third" => some ((1 / 3 : ℝ) : EReal)
  | _ => none
-- ==== ReferenceIdeal.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S8x2048x16 : Shape := ⟨3, ![8, 2048, 16]⟩
abbrev S8x2048x16x1 : Shape := ⟨4, ![8, 2048, 16, 1]⟩
abbrev S8x2048x16x3 : Shape := ⟨4, ![8, 2048, 16, 3]⟩
abbrev S8x2048 : Shape := ⟨2, ![8, 2048]⟩
abbrev S8x2048x1 : Shape := ⟨3, ![8, 2048, 1]⟩
abbrev S8x2048x3x3 : Shape := ⟨4, ![8, 2048, 3, 3]⟩
abbrev S8x2048x1x1 : Shape := ⟨4, ![8, 2048, 1, 1]⟩
abbrev S3x3 : Shape := ⟨2, ![3, 3]⟩
abbrev S1x3x3 : Shape := ⟨3, ![1, 3, 3]⟩
abbrev S1x1x3x3 : Shape := ⟨4, ![1, 1, 3, 3]⟩
abbrev S8x2048x2x3 : Shape := ⟨4, ![8, 2048, 2, 3]⟩
abbrev S8x2048x3x2 : Shape := ⟨4, ![8, 2048, 3, 2]⟩
abbrev S8x2048x3x1 : Shape := ⟨4, ![8, 2048, 3, 1]⟩
abbrev S2048 : Shape := ⟨1, ![2048]⟩
abbrev S8x2048x9 : Shape := ⟨3, ![8, 2048, 9]⟩

abbrev nBuf : Space → Nat
  | .hbm => 247
  | .vmem => 0
  | .smem => 0
  | _ => 0

abbrev hbmTy0_0 (i : Nat) : BufTy := match i % 128 with
  | 0 => ⟨S8x2048x3, .f32⟩
  | 1 => ⟨S8x2048x1x3, .f32⟩
  | 2 => ⟨S8x1x2048x3, .f32⟩
  | 3 => ⟨S8x2048x2048x3, .f32⟩
  | 4 => ⟨S8x2048x2048x3, .f32⟩
  | 5 => ⟨S8x2048x2048x3, .f32⟩
  | 6 => ⟨S8x2048x2048x3, .f32⟩
  | 7 => ⟨S_, .f32⟩
  | 8 => ⟨S8x2048x2048, .f32⟩
  | 9 => ⟨S8x2048x2048, .f32⟩
  | 10 => ⟨S8x2048x16, .f32⟩
  | 11 => ⟨S8x2048x16, .i32⟩
  | 12 => ⟨S8x2048x16x1, .i32⟩
  | 13 => ⟨S8x2048x16x3, .f32⟩
  | 14 => ⟨S8x2048x1x3, .f32⟩
  | 15 => ⟨S8x2048x16x3, .f32⟩
  | 16 => ⟨S8x2048x16x3, .f32⟩
  | 17 => ⟨S8x2048x16x3, .f32⟩
  | 18 => ⟨S_, .f32⟩
  | 19 => ⟨S8x2048x16, .f32⟩
  | 20 => ⟨S_, .f32⟩
  | 21 => ⟨S8x2048x16, .f32⟩
  | 22 => ⟨S8x2048x16, .f32⟩
  | 23 => ⟨S8x2048x16, .f32⟩
  | 24 => ⟨S_, .f32⟩
  | 25 => ⟨S8x2048, .f32⟩
  | 26 => ⟨S8x2048x1, .f32⟩
  | 27 => ⟨S8x2048x16, .f32⟩
  | 28 => ⟨S8x2048x16, .f32⟩
  | 29 => ⟨S_, .f32⟩
  | 30 => ⟨S8x2048x16, .f32⟩
  | 31 => ⟨S8x2048x16, .f32⟩
  | 32 => ⟨S_, .f32⟩
  | 33 => ⟨S8x2048x16, .f32⟩
  | 34 => ⟨S8x2048x16, .f32⟩
  | 35 => ⟨S8x2048x16x1, .f32⟩
  | 36 => ⟨S8x2048x16x3, .f32⟩
  | 37 => ⟨S8x2048x16x3, .f32⟩
  | 38 => ⟨S8x2048x3x3, .f32⟩
  | 39 => ⟨S_, .f32⟩
  | 40 => ⟨S8x2048, .f32⟩
  | 41 => ⟨S8x2048x1x1, .f32⟩
  | 42 => ⟨S8x2048x3x3, .f32⟩
  | 43 => ⟨S8x2048x3x3, .f32⟩
  | 44 => ⟨S3x3, .i32⟩
  | 45 => ⟨S3x3, .i32⟩
  | 46 => ⟨S_, .i32⟩
  | 47 => ⟨S3x3, .i32⟩
  | 48 => ⟨S3x3, .i32⟩
  | 49 => ⟨S3x3, .i1⟩
  | 50 => ⟨S3x3, .f32⟩
  | 51 => ⟨S1x3x3, .f32⟩
  | 52 => ⟨S1x1x3x3, .f32⟩
  | 53 => ⟨S8x2048x3x3, .f32⟩
  | 54 => ⟨S8x2048x3x3, .f32⟩
  | 55 => ⟨S_, .f32⟩
  | 56 => ⟨S8x2048x3, .f32⟩
  | 57 => ⟨S_, .f32⟩
  | 58 => ⟨S8x2048, .f32⟩
  | 59 => ⟨S_, .f32⟩
  | 60 => ⟨S8x2048, .f32⟩
  | 61 => ⟨S8x2048, .f32⟩
  | 62 => ⟨S8x2048x1x1, .f32⟩
  | 63 => ⟨S1x3x3, .f32⟩
  | 64 => ⟨S1x1x3x3, .f32⟩
  | 65 => ⟨S8x2048x3x3, .f32⟩
  | 66 => ⟨S8x2048x3x3, .f32⟩
  | 67 => ⟨S8x2048x3x3, .f32⟩
  | 68 => ⟨S8x2048x3x3, .f32⟩
  | 69 => ⟨S8x2048x3x3, .f32⟩
  | 70 => ⟨S_, .f32⟩
  | 71 => ⟨S8x2048x3, .f32⟩
  | 72 => ⟨S_, .f32⟩
  | 73 => ⟨S8x2048, .f32⟩
  | 74 => ⟨S_, .f32⟩
  | 75 => ⟨S8x2048, .f32⟩
  | 76 => ⟨S8x2048, .f32⟩
  | 77 => ⟨S8x2048, .f32⟩
  | 78 => ⟨S_, .f32⟩
  | 79 => ⟨S8x2048, .f32⟩
  | 80 => ⟨S8x2048, .f32⟩
  | 81 => ⟨S8x2048x1x1, .f32⟩
  | 82 => ⟨S8x2048x3x3, .f32⟩
  | 83 => ⟨S8x2048x3x3, .f32⟩
  | 84 => ⟨S8x2048x2x3, .f32⟩
  | 85 => ⟨S8x2048x1x3, .f32⟩
  | 86 => ⟨S8x2048x3x3, .f32⟩
  | 87 => ⟨S8x2048x1x3, .f32⟩
  | 88 => ⟨S8x2048x2x3, .f32⟩
  | 89 => ⟨S8x2048x3x3, .f32⟩
  | 90 => ⟨S8x2048x3x2, .f32⟩
  | 91 => ⟨S8x2048x3x1, .f32⟩
  | 92 => ⟨S8x2048x3x3, .f32⟩
  | 93 => ⟨S8x2048x3x1, .f32⟩
  | 94 => ⟨S8x2048x3x2, .f32⟩
  | 95 => ⟨S8x2048x3x3, .f32⟩
  | 96 => ⟨S8x2048x3x3, .f32⟩
  | 97 => ⟨S8x2048x3x1, .f32⟩
  | 98 => ⟨S8x2048x3x2, .f32⟩
  | 99 => ⟨S8x2048x3x3, .f32⟩
  | 100 => ⟨S8x2048x3x2, .f32⟩
  | 101 => ⟨S8x2048x3x1, .f32⟩
  | 102 => ⟨S8x2048x3x3, .f32⟩
  | 103 => ⟨S8x2048x3x3, .f32⟩
  | 104 => ⟨S8x2048x3x3, .f32⟩
  | 105 => ⟨S8x2048x3x3, .f32⟩
  | 106 => ⟨S_, .f32⟩
  | 107 => ⟨S8x2048x3, .f32⟩
  | 108 => ⟨S_, .f32⟩
  | 109 => ⟨S8x2048, .f32⟩
  | 110 => ⟨S_, .f32⟩
  | 111 => ⟨S8x2048, .f32⟩
  | 112 => ⟨S8x2048, .f32⟩
  | 113 => ⟨S_, .f32⟩
  | 114 => ⟨S2048, .f32⟩
  | 115 => ⟨S8x2048, .f32⟩
  | 116 => ⟨S_, .i32⟩
  | 117 => ⟨S_, .i32⟩
  | 118 => ⟨S8x2048, .f32⟩
  | 119 => ⟨S_, .i32⟩
  | 120 => ⟨S_, .i32⟩
  | 121 => ⟨S8x2048, .f32⟩
  | 122 => ⟨S_, .i32⟩
  | 123 => ⟨S_, .i1⟩
  | 124 => ⟨S_, .i32⟩
  | 125 => ⟨S_, .i32⟩
  | 126 => ⟨S8x2048, .f32⟩
  | 127 => ⟨S8x2048, .f32⟩
  | _ => ⟨S8x2048x3, .f32⟩

abbrev hbmTy0_1 (i : Nat) : BufTy := match i % 128 with
  | 0 => ⟨S_, .f32⟩
  | 1 => ⟨S8x2048, .f32⟩
  | 2 => ⟨S8x2048, .f32⟩
  | 3 => ⟨S8x2048, .f32⟩
  | 4 => ⟨S8x2048, .f32⟩
  | 5 => ⟨S_, .f32⟩
  | 6 => ⟨S8x2048, .f32⟩
  | 7 => ⟨S8x2048, .f32⟩
  | 8 => ⟨S8x2048, .f32⟩
  | 9 => ⟨S_, .f32⟩
  | 10 => ⟨S8x2048, .f32⟩
  | 11 => ⟨S8x2048, .f32⟩
  | 12 => ⟨S8x2048, .f32⟩
  | 13 => ⟨S8x2048, .f32⟩
  | 14 => ⟨S_, .i32⟩
  | 15 => ⟨S_, .i32⟩
  | 16 => ⟨S8x2048x1x1, .f32⟩
  | 17 => ⟨S1x3x3, .f32⟩
  | 18 => ⟨S1x1x3x3, .f32⟩
  | 19 => ⟨S8x2048x3x3, .f32⟩
  | 20 => ⟨S8x2048x3x3, .f32⟩
  | 21 => ⟨S8x2048x3x3, .f32⟩
  | 22 => ⟨S8x2048x3x3, .f32⟩
  | 23 => ⟨S8x2048x2x3, .f32⟩
  | 24 => ⟨S8x2048x1x3, .f32⟩
  | 25 => ⟨S8x2048x3x3, .f32⟩
  | 26 => ⟨S8x2048x1x3, .f32⟩
  | 27 => ⟨S8x2048x2x3, .f32⟩
  | 28 => ⟨S8x2048x3x3, .f32⟩
  | 29 => ⟨S8x2048x3x2, .f32⟩
  | 30 => ⟨S8x2048x3x1, .f32⟩
  | 31 => ⟨S8x2048x3x3, .f32⟩
  | 32 => ⟨S8x2048x3x1, .f32⟩
  | 33 => ⟨S8x2048x3x2, .f32⟩
  | 34 => ⟨S8x2048x3x3, .f32⟩
  | 35 => ⟨S8x2048x3x3, .f32⟩
  | 36 => ⟨S8x2048x3x1, .f32⟩
  | 37 => ⟨S8x2048x3x2, .f32⟩
  | 38 => ⟨S8x2048x3x3, .f32⟩
  | 39 => ⟨S8x2048x3x2, .f32⟩
  | 40 => ⟨S8x2048x3x1, .f32⟩
  | 41 => ⟨S8x2048x3x3, .f32⟩
  | 42 => ⟨S8x2048x3x3, .f32⟩
  | 43 => ⟨S8x2048x3x3, .f32⟩
  | 44 => ⟨S8x2048x3x3, .f32⟩
  | 45 => ⟨S_, .f32⟩
  | 46 => ⟨S8x2048x3, .f32⟩
  | 47 => ⟨S8x2048x3x1, .f32⟩
  | 48 => ⟨S8x2048x1x1, .f32⟩
  | 49 => ⟨S8x2048x1, .f32⟩
  | 50 => ⟨S8x2048x1x1, .f32⟩
  | 51 => ⟨S8x2048x1, .f32⟩
  | 52 => ⟨S8x2048x1x1, .f32⟩
  | 53 => ⟨S8x2048x1, .f32⟩
  | 54 => ⟨S8x2048x1, .i1⟩
  | 55 => ⟨S8x2048x1, .i1⟩
  | 56 => ⟨S8x2048x1, .i1⟩
  | 57 => ⟨S8x2048x1x3, .f32⟩
  | 58 => ⟨S8x2048x3, .f32⟩
  | 59 => ⟨S8x2048x1, .i1⟩
  | 60 => ⟨S8x2048x1x3, .f32⟩
  | 61 => ⟨S8x2048x3, .f32⟩
  | 62 => ⟨S8x2048x1x3, .f32⟩
  | 63 => ⟨S8x2048x3, .f32⟩
  | 64 => ⟨S8x2048x3, .i1⟩
  | 65 => ⟨S8x2048x3, .f32⟩
  | 66 => ⟨S8x2048x3, .i1⟩
  | 67 => ⟨S8x2048x3, .f32⟩
  | 68 => ⟨S8x2048x3, .f32⟩
  | 69 => ⟨S_, .f32⟩
  | 70 => ⟨S8x2048, .f32⟩
  | 71 => ⟨S8x2048x1, .f32⟩
  | 72 => ⟨S_, .f32⟩
  | 73 => ⟨S8x2048x1, .f32⟩
  | 74 => ⟨S8x2048x1, .f32⟩
  | 75 => ⟨S8x2048x1, .f32⟩
  | 76 => ⟨S8x2048x3, .f32⟩
  | 77 => ⟨S8x2048x3, .f32⟩
  | 78 => ⟨S8x2048x16, .f32⟩
  | 79 => ⟨S_, .f32⟩
  | 80 => ⟨S8x2048, .f32⟩
  | 81 => ⟨S8x2048, .f32⟩
  | 82 => ⟨S_, .f32⟩
  | 83 => ⟨S8x2048, .f32⟩
  | 84 => ⟨S8x2048, .i1⟩
  | 85 => ⟨S_, .f32⟩
  | 86 => ⟨S_, .f32⟩
  | 87 => ⟨S2048, .f32⟩
  | 88 => ⟨S8x2048, .f32⟩
  | 89 => ⟨S8x2048, .f32⟩
  | 90 => ⟨S8x2048, .f32⟩
  | 91 => ⟨S8x2048x1, .f32⟩
  | 92 => ⟨S8x2048x3, .f32⟩
  | 93 => ⟨S8x2048x3, .f32⟩
  | 94 => ⟨S8x2048x16x1, .i32⟩
  | 95 => ⟨S8x2048x16x3, .f32⟩
  | 96 => ⟨S_, .f32⟩
  | 97 => ⟨S8x2048x3, .f32⟩
  | 98 => ⟨S8x2048x1x3, .f32⟩
  | 99 => ⟨S_, .f32⟩
  | 100 => ⟨S8x2048x1x3, .f32⟩
  | 101 => ⟨S8x2048x1x3, .f32⟩
  | 102 => ⟨S8x2048x16x3, .f32⟩
  | 103 => ⟨S8x2048x16x3, .f32⟩
  | 104 => ⟨S8x2048x3x3, .f32⟩
  | 105 => ⟨S_, .f32⟩
  | 106 => ⟨S8x2048x3x3, .f32⟩
  | 107 => ⟨S8x2048x3x3, .f32⟩
  | 108 => ⟨S8x2048x9, .f32⟩
  | 109 => ⟨S8x2048x9, .f32⟩
  | 110 => ⟨S_, .f32⟩
  | 111 => ⟨S8x2048, .f32⟩
  | 112 => ⟨S8x2048x1, .f32⟩
  | 113 => ⟨S8x2048x1, .f32⟩
  | 114 => ⟨S_, .f32⟩
  | 115 => ⟨S8x2048x1, .f32⟩
  | 116 => ⟨S8x2048x1, .f32⟩
  | 117 => ⟨S8x2048x9, .f32⟩
  | 118 => ⟨S8x2048x9, .f32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_values : Ref sig .tc := ⟨.hbm, 10, rfl⟩
abbrev main_indices : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_call0_v0 : Ref sig .tc := ⟨.hbm, 84, rfl⟩
abbrev main_call0_v1 : Ref sig .tc := ⟨.hbm, 85, rfl⟩
abbrev main_v66 : Ref sig .tc := ⟨.hbm, 86, rfl⟩
abbrev main_call1_v0 : Ref sig .tc := ⟨.hbm, 87, rfl⟩
abbrev main_call1_v1 : Ref sig .tc := ⟨.hbm, 88, rfl⟩
abbrev main_v67 : Ref sig .tc := ⟨.hbm, 89, rfl⟩
abbrev main_call2_v0 : Ref sig .tc := ⟨.hbm, 90, rfl⟩
abbrev main_call2_v1 : Ref sig .tc := ⟨.hbm, 91, rfl⟩
abbrev main_v68 : Ref sig .tc := ⟨.hbm, 92, rfl⟩
abbrev main_call3_v0 : Ref sig .tc := ⟨.hbm, 93, rfl⟩
abbrev main_call3_v1 : Ref sig .tc := ⟨.hbm, 94, rfl⟩
abbrev main_v69 : Ref sig .tc := ⟨.hbm, 95, rfl⟩
abbrev main_v70 : Ref sig .tc := ⟨.hbm, 96, rfl⟩
abbrev main_call4_v0 : Ref sig .tc := ⟨.hbm, 97, rfl⟩
abbrev main_call4_v1 : Ref sig .tc := ⟨.hbm, 98, rfl⟩
abbrev main_v71 : Ref sig .tc := ⟨.hbm, 99, rfl⟩
abbrev main_call5_v0 : Ref sig .tc := ⟨.hbm, 100, rfl⟩
abbrev main_call5_v1 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_c_17 : Ref sig .tc := ⟨.hbm, 116, rfl⟩
abbrev main_c_18 : Ref sig .tc := ⟨.hbm, 117, rfl⟩
abbrev main_v82_0 : Ref sig .tc := ⟨.hbm, 118, rfl⟩
abbrev main_v82_1 : Ref sig .tc := ⟨.hbm, 119, rfl⟩
abbrev main_v82_2 : Ref sig .tc := ⟨.hbm, 120, rfl⟩
abbrev main_v82_3 : Ref sig .tc := ⟨.hbm, 121, rfl⟩
abbrev main_while0c_c_32 : Ref sig .tc := ⟨.hbm, 122, rfl⟩
abbrev main_while0c_v155 : Ref sig .tc := ⟨.hbm, 123, rfl⟩
abbrev main_while0b_c_32 : Ref sig .tc := ⟨.hbm, 124, rfl⟩
abbrev main_while0b_v155 : Ref sig .tc := ⟨.hbm, 125, rfl⟩
abbrev main_while0b_v156 : Ref sig .tc := ⟨.hbm, 126, rfl⟩
abbrev main_while0b_v157 : Ref sig .tc := ⟨.hbm, 127, rfl⟩
abbrev main_while0b_cst_33 : Ref sig .tc := ⟨.hbm, 128, rfl⟩
abbrev main_while0b_v158 : Ref sig .tc := ⟨.hbm, 129, rfl⟩
abbrev main_while0b_v159 : Ref sig .tc := ⟨.hbm, 130, rfl⟩
abbrev main_while0b_v160 : Ref sig .tc := ⟨.hbm, 131, rfl⟩
abbrev main_while0b_v161 : Ref sig .tc := ⟨.hbm, 132, rfl⟩
abbrev main_while0b_cst_34 : Ref sig .tc := ⟨.hbm, 133, rfl⟩
abbrev main_while0b_v162 : Ref sig .tc := ⟨.hbm, 134, rfl⟩
abbrev main_while0b_v163 : Ref sig .tc := ⟨.hbm, 135, rfl⟩
abbrev main_while0b_v164 : Ref sig .tc := ⟨.hbm, 136, rfl⟩
abbrev main_while0b_cst_35 : Ref sig .tc := ⟨.hbm, 137, rfl⟩
abbrev main_while0b_v165 : Ref sig .tc := ⟨.hbm, 138, rfl⟩
abbrev main_while0b_v166 : Ref sig .tc := ⟨.hbm, 139, rfl⟩
abbrev main_while0b_v167 : Ref sig .tc := ⟨.hbm, 140, rfl⟩
abbrev main_while0b_v168 : Ref sig .tc := ⟨.hbm, 141, rfl⟩
abbrev main_while0b_c_36 : Ref sig .tc := ⟨.hbm, 142, rfl⟩
abbrev main_while0b_v169 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_call6_v0 : Ref sig .tc := ⟨.hbm, 151, rfl⟩
abbrev main_call6_v1 : Ref sig .tc := ⟨.hbm, 152, rfl⟩
abbrev main_v90 : Ref sig .tc := ⟨.hbm, 153, rfl⟩
abbrev main_call7_v0 : Ref sig .tc := ⟨.hbm, 154, rfl⟩
abbrev main_call7_v1 : Ref sig .tc := ⟨.hbm, 155, rfl⟩
abbrev main_v91 : Ref sig .tc := ⟨.hbm, 156, rfl⟩
abbrev main_call8_v0 : Ref sig .tc := ⟨.hbm, 157, rfl⟩
abbrev main_call8_v1 : Ref sig .tc := ⟨.hbm, 158, rfl⟩
abbrev main_v92 : Ref sig .tc := ⟨.hbm, 159, rfl⟩
abbrev main_call9_v0 : Ref sig .tc := ⟨.hbm, 160, rfl⟩
abbrev main_call9_v1 : Ref sig .tc := ⟨.hbm, 161, rfl⟩
abbrev main_v93 : Ref sig .tc := ⟨.hbm, 162, rfl⟩
abbrev main_v94 : Ref sig .tc := ⟨.hbm, 163, rfl⟩
abbrev main_call10_v0 : Ref sig .tc := ⟨.hbm, 164, rfl⟩
abbrev main_call10_v1 : Ref sig .tc := ⟨.hbm, 165, rfl⟩
abbrev main_v95 : Ref sig .tc := ⟨.hbm, 166, rfl⟩
abbrev main_call11_v0 : Ref sig .tc := ⟨.hbm, 167, rfl⟩
abbrev main_call11_v1 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_cst_19 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_call12_v0 : Ref sig .tc := ⟨.hbm, 192, rfl⟩
abbrev main_v118 : Ref sig .tc := ⟨.hbm, 193, rfl⟩
abbrev main_call13_v0 : Ref sig .tc := ⟨.hbm, 194, rfl⟩
abbrev main_v119 : Ref sig .tc := ⟨.hbm, 195, rfl⟩
abbrev main_v120 : Ref sig .tc := ⟨.hbm, 196, rfl⟩
abbrev main_cst_20 : Ref sig .tc := ⟨.hbm, 197, rfl⟩
abbrev main_v121 : Ref sig .tc := ⟨.hbm, 198, rfl⟩
abbrev main_v122 : Ref sig .tc := ⟨.hbm, 199, rfl⟩
abbrev main_cst_21 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_cst_22 : Ref sig .tc := ⟨.hbm, 207, rfl⟩
abbrev main_v129 : Ref sig .tc := ⟨.hbm, 208, rfl⟩
abbrev main_v130 : Ref sig .tc := ⟨.hbm, 209, rfl⟩
abbrev main_cst_23 : Ref sig .tc := ⟨.hbm, 210, rfl⟩
abbrev main_v131 : Ref sig .tc := ⟨.hbm, 211, rfl⟩
abbrev main_v132 : Ref sig .tc := ⟨.hbm, 212, rfl⟩
abbrev main_cst_24 : Ref sig .tc := ⟨.hbm, 213, rfl⟩
abbrev main_call14_v0 : Ref sig .tc := ⟨.hbm, 214, rfl⟩
abbrev main_call14_v1 : Ref sig .tc := ⟨.hbm, 215, rfl⟩
abbrev main_call14_v2 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_cst_25 : Ref sig .tc := ⟨.hbm, 224, rfl⟩
abbrev main_v140 : Ref sig .tc := ⟨.hbm, 225, rfl⟩
abbrev main_v141 : Ref sig .tc := ⟨.hbm, 226, rfl⟩
abbrev main_cst_26 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_cst_27 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_call15_v0 : Ref sig .tc := ⟨.hbm, 237, rfl⟩
abbrev main_call15_cst : Ref sig .tc := ⟨.hbm, 238, rfl⟩
abbrev main_call15_v1 : Ref sig .tc := ⟨.hbm, 239, rfl⟩
abbrev main_call15_v2 : Ref sig .tc := ⟨.hbm, 240, rfl⟩
abbrev main_v150 : Ref sig .tc := ⟨.hbm, 241, rfl⟩
abbrev main_cst_28 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩

abbrev nD : Nat := 1
abbrev τ : Topo := Topo.v7x

variable {F : FTy → Type} [FloatOps F]

abbrev main_while0_count : Scf.Loop 32 := ⟨0#32, 22#32, 1#32⟩
-- ==== Proof.Frames.lean ====
/- What holds of each program alone: the kernel, at the bit patterns and at the extended reals, and the reference run to
   the end, leave their arguments as they were and every counter at zero; and each constant or sign the idealized kernel
   reads by its value is what the rule says. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

set_option maxRecDepth 20000

noncomputable section

namespace Cert.Proof

open Idealize.ShloMosaic Idealize.ShloMosaic.StableHlo Idealize.ShloMosaic.TcCoe Idealize.SL.Sem

section Reference

open Cert.ReferenceIdeal Cert.ReferenceIdeal.Gen Cert.ReferenceIdeal.Value

variable {F : FTy → Type} [FloatOps F]
variable (m : (ℓ : Loc nD τ sig) → Buf (Elt F) ℓ)

/-- No trip of the reference's loop writes the argument. -/
theorem loop_keeps_arg (V : Dev nD → Valuation τ sig (Elt F)) (c : Dev nD) :
    ∀ k, atTrip condOps bodyI V k c (Proc.devRef .tc main_arg0) = V c (Proc.devRef .tc main_arg0)
  | 0 => rfl
  | k + 1 => by
    rw [atTrip_succ]
    simp only [afterL_cons, afterL_nil]
    after_reads_simp
    exact loop_keeps_arg V c k

/-- No operation of the reference writes the argument: the contents it ends with are the contents it had. -/
theorem final_arg (c : Dev nD) :
    finalContents condOps preI bodyI postI 22 m c (Proc.devRef .tc main_arg0) = m ((c.tc : Thread nD τ).loc main_arg0) := by
  unfold finalContents entryContents
  simp only [afterL_cons, afterL_nil]
  after_reads_simp
  rw [loop_keeps_arg]
  after_reads_simp

/-- The reference's frame. -/
theorem frame_reference : Cert.quiescent_ReferenceIdeal := fun m ρ _ =>
  (θ_run Cert.ReferenceIdeal.defs _ _).mono
    (fun r h => ⟨fun c => (h c main_arg0 rfl).trans (final_arg m c),
      Idealize.ShloMosaic.sem_eq_zero_of_no_sems (by decide) r.2⟩)
    (run_fold (F := Ideal) m ρ)

end Reference

/-- The two constants and the sign, read by value. -/
theorem preserves : Cert.preserves_Kernel_KernelIdeal :=
  ⟨IdealRules.named_const.statement _ _ _ _ _ rfl, IdealRules.named_const.statement _ _ _ _ _ rfl,
    IdealRules.sign_bit.statement _ _⟩

end Cert.Proof

end
-- ==== Proof.KernelRun.lean ====
module
public import proofs.«01_k».proof.Proof.Gen.KernelIdeal.Frame

/-! # The kernel's run

  The run of the segments with a second fact read off the final state: the result array holds what the last stretch of host
  operations leaves in it. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Arrays

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, and ends with the result array as the last host operation leaves it and the argument as given. -/
theorem run_value : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨h c _ (mem_uc main_v4 (by decide)),
      (h c _ (mem_uc main_arg0 (by decide))).trans (W5_main_arg0 m ρ c)⟩)

end Cert.KernelIdeal.Arrays
-- ==== Proof.Nearest.lean ====
module
public import Mathlib.Data.EReal.Basic
public import Mathlib.Data.Finset.Fold
public import Mathlib.Algebra.BigOperators.Fin
public import Mathlib.Order.Fin.Basic

/-! # The sixteen nearest, found two ways

  Given a family of distances, the sixteen nearest can be listed (a sorted selection) or cut out by a radius (everything no
  further than the sixteenth). When the seventeen nearest lie at different distances the two agree: the radius is found by
  stepping fifteen times from distance zero to the next distance above, and the set it cuts out is the listed one. -/

@[expose] public section

namespace Cert.Spec

open scoped BigOperators

variable {n : ℕ}

/-- `nb` lists the seventeen nearest by distance `d`, strictly increasing; nothing unlisted is nearer than the last. -/
structure Nearest (d : Fin n → ℝ) (nb : Fin 17 → Fin n) : Prop where
  inc : StrictMono fun k => d (nb k)
  far : ∀ m, (∀ k, nb k ≠ m) → d (nb 16) ≤ d m

/-- The points no further than `r`. -/
noncomputable def near (d : Fin n → ℝ) (r : ℝ) : Finset (Fin n) := Finset.univ.filter fun m => d m ≤ r

theorem mem_near {d : Fin n → ℝ} {r : ℝ} {m : Fin n} : m ∈ near d r ↔ d m ≤ r := by simp [near]

variable {d : Fin n → ℝ} {nb : Fin 17 → Fin n}

/-- Beyond the `k`-th listed distance, `k < 16`, nothing comes before the `k + 1`-st. -/
theorem Nearest.next_le (h : Nearest d nb) (k : Fin 16) {m : Fin n} (hm : d (nb k.castSucc) < d m) :
    d (nb k.succ) ≤ d m := by
  by_cases hr : ∃ j, nb j = m
  · obtain ⟨j, rfl⟩ := hr
    have hj : k.castSucc < j := h.inc.lt_iff_lt.mp hm
    exact h.inc.monotone (Fin.castSucc_lt_iff_succ_le.mp hj)
  · push Not at hr
    exact (h.inc.monotone (Fin.le_last _)).trans (h.far m hr)

/-- The first listed distance is zero when some point is at distance zero and none is at less. -/
theorem Nearest.first (h : Nearest d nb) (h0 : ∀ m, 0 ≤ d m) {i : Fin n} (hi : d i = 0) : d (nb 0) = 0 := by
  apply le_antisymm _ (h0 _)
  rw [← hi]
  by_cases hr : ∃ j, nb j = i
  · obtain ⟨j, rfl⟩ := hr
    exact h.inc.monotone (Fin.zero_le j)
  · push Not at hr
    exact (h.inc.monotone (Fin.zero_le _)).trans (h.far i hr)

/-- The least distance above `r`, infinite if there is none. -/
noncomputable def nextAbove (d : Fin n → ℝ) (r : EReal) : EReal :=
  Finset.univ.fold min ⊤ fun m => if (d m : EReal) ≤ r then ⊤ else (d m : EReal)

/-- Above the `k`-th listed distance, `k < 16`, the next is the `k + 1`-st. -/
theorem Nearest.nextAbove (h : Nearest d nb) (k : Fin 16) :
    nextAbove d (d (nb k.castSucc) : EReal) = (d (nb k.succ) : EReal) := by
  apply le_antisymm
  · rw [Spec.nextAbove, Finset.fold_min_le]
    refine .inr ⟨nb k.succ, Finset.mem_univ _, ?_⟩
    rw [if_neg]
    exact not_le.mpr (EReal.coe_lt_coe_iff.mpr (h.inc (Fin.castSucc_lt_succ)))
  · rw [Spec.nextAbove, Finset.le_fold_min]
    refine ⟨le_top, fun m _ => ?_⟩
    split
    · exact le_top
    · rename_i hm
      exact EReal.coe_le_coe_iff.mpr (h.next_le k (EReal.coe_lt_coe_iff.mp (not_le.mp hm)))

/-- `k` steps up from distance zero reach the `k`-th listed distance. -/
theorem Nearest.iterate (h : Nearest d nb) (h0 : d (nb 0) = 0) (k : ℕ) (hk : k < 17) :
    (Spec.nextAbove d)^[k] 0 = (d (nb ⟨k, hk⟩) : EReal) := by
  induction k with
  | zero => rw [Function.iterate_zero_apply, show (⟨0, hk⟩ : Fin 17) = 0 from rfl, h0]; rfl
  | succ k ih =>
    rw [Function.iterate_succ_apply', ih (Nat.lt_of_succ_lt hk)]
    exact h.nextAbove ⟨k, by omega⟩

/-- The radius of the sixteenth cuts out exactly the first sixteen listed: a sum over the set is the sum over the list. -/
theorem Nearest.sum_near {β : Type} [AddCommMonoid β] (h : Nearest d nb) (f : Fin n → β) :
    ∑ m ∈ near d (d (nb 15)), f m = ∑ k : Fin 16, f (nb k.castSucc) := by
  have hinj : Function.Injective nb := fun a b hab => h.inc.injective (by simp only [hab])
  have he : near d (d (nb 15)) = Finset.univ.map ⟨fun k : Fin 16 => nb k.castSucc, fun a b hab => Fin.castSucc_injective _ (hinj hab)⟩ := by
    ext m
    rw [mem_near, Finset.mem_map]
    constructor
    · intro hm
      by_cases hr : ∃ j, nb j = m
      · obtain ⟨j, rfl⟩ := hr
        have hj : j ≤ 15 := h.inc.le_iff_le.mp hm
        refine ⟨⟨j.val, ?_⟩, Finset.mem_univ _, rfl⟩
        have := Fin.le_def.mp hj
        exact Nat.lt_succ_of_le this
      · push Not at hr
        have h1 := h.far m hr
        have h2 : d (nb 15) < d (nb 16) := h.inc (by decide)
        linarith
    · rintro ⟨k, -, rfl⟩
      exact h.inc.monotone (Fin.le_def.mpr (Nat.le_of_lt_succ k.isLt))
  rw [he, Finset.sum_map]
  rfl

end Cert.Spec
-- ==== Proof.Spec.lean ====
module
public import Mathlib.Analysis.SpecialFunctions.Pow.Real
public import Mathlib.Algebra.BigOperators.Fin

/-! # The descriptor over the real numbers

  Both programs take a cloud of points, find the neighbours of each point, fit a plane normal to each neighbourhood, and
  return the normalised covariance of the neighbours' normals. This module writes that function down over the reals, once,
  with the set of neighbours and its squared radius as parameters; the other modules show that each program computes it. -/

@[expose] public section

noncomputable section

namespace Cert.Spec

open scoped BigOperators

/-! ## The rounded constants both programs carry -/

/-- The single-precision number nearest `1e-12`, added to a squared distance under a square root. -/
def distFloor : ℝ := 9223372 / 2 ^ 63
/-- The single-precision number nearest `1e-6`, the least weight of a neighbour. -/
def weightFloor : ℝ := 8796093 / 2 ^ 43
/-- The single-precision number nearest `1e-30`, which keeps a scale and a squared length off zero. -/
def tiny : ℝ := 10633824 / 2 ^ 123
/-- The single-precision number nearest `-2.001`, where the root search starts. -/
def start : ℝ := -(8392802 / 2 ^ 22)

theorem distFloor_pos : 0 < distFloor := by unfold distFloor; positivity
theorem weightFloor_pos : 0 < weightFloor := by unfold weightFloor; positivity
theorem tiny_pos : 0 < tiny := by unfold tiny; positivity
theorem start_le : start ≤ -2 := by unfold start; norm_num

/-! ## A point's neighbourhood -/

/-- A cloud of `n` points. -/
abbrev Cloud (n : ℕ) := Fin n → Fin 3 → ℝ
/-- A 3 by 3 matrix. -/
abbrev Mat := Fin 3 → Fin 3 → ℝ

variable {n : ℕ}

/-- The vector from point `i` to point `m`. -/
def offset (v : Cloud n) (i m : Fin n) (a : Fin 3) : ℝ := v m a - v i a

/-- The squared distance from point `i` to point `m`. -/
def dist2 (v : Cloud n) (i m : Fin n) : ℝ := ∑ a, offset v i m a * offset v i m a

theorem dist2_nonneg (v : Cloud n) (i m : Fin n) : 0 ≤ dist2 v i m :=
  Finset.sum_nonneg fun a _ => mul_self_nonneg _

theorem dist2_self (v : Cloud n) (i : Fin n) : dist2 v i i = 0 := by
  simp [dist2, offset]

/-- The regularised distance of squared distance `d`. -/
def dist (d : ℝ) : ℝ := Real.sqrt (d + distFloor)

/-- The weight of a neighbour at squared distance `d` in a neighbourhood of squared radius `r`. -/
def weight (r d : ℝ) : ℝ := max (dist r - dist d) 0 + weightFloor

theorem weight_pos (r d : ℝ) : 0 < weight r d :=
  add_pos_of_nonneg_of_pos (le_max_right _ _) weightFloor_pos

/-- The weighted covariance of the offsets from point `i` to the points of `s`. -/
def cov (v : Cloud n) (s : Finset (Fin n)) (r : ℝ) (i : Fin n) : Mat := fun a b =>
  (∑ m ∈ s, weight r (dist2 v i m) * offset v i m a * offset v i m b) / ∑ m ∈ s, weight r (dist2 v i m)

theorem cov_symm (v : Cloud n) (s : Finset (Fin n)) (r : ℝ) (i : Fin n) (a b : Fin 3) : cov v s r i a b = cov v s r i b a := by
  unfold cov
  congr 1
  exact Finset.sum_congr rfl fun m _ => by ring

/-! ## The eigenvector of the smallest eigenvalue of a symmetric matrix -/

/-- A third of the trace. -/
def third (c : Mat) : ℝ := (∑ a, c a a) / 3

/-- The matrix less a third of its trace: trace zero. -/
def traceless (c : Mat) : Mat := fun a b => c a b - if a = b then third c else 0

/-- The scale that brings the traceless part's squared entries to a sum of at most six. -/
def scale (c : Mat) : ℝ := Real.sqrt ((∑ a, ∑ b, traceless c a b * traceless c a b) / 6) + tiny

theorem scale_pos (c : Mat) : 0 < scale c := add_pos_of_nonneg_of_pos (Real.sqrt_nonneg _) tiny_pos

/-- The traceless part, scaled: its eigenvalues are those of `c`, shifted and scaled. -/
def scaled (c : Mat) : Mat := fun a b => traceless c a b / scale c

/-- The matrix of cofactors; the indices count round. -/
def cofactor (m : Mat) : Mat := fun i j => m (i + 1) (j + 1) * m (i + 2) (j + 2) - m (i + 1) (j + 2) * m (i + 2) (j + 1)

/-- The determinant, as a third of the sum of the entries times their cofactors. -/
def det (m : Mat) : ℝ := (∑ i, ∑ j, m i j * cofactor m i j) / 3

/-- One Newton step on `t³ - 3 t - d`, the characteristic polynomial of a scaled matrix of determinant `d`. -/
def newton (d t : ℝ) : ℝ := t - (t * t * t - 3 * t - d) / (3 * t * t - 3)

/-- The smallest root after 22 steps. -/
def root (d : ℝ) : ℝ := (newton d)^[22] start

/-- The matrix less `t` times the identity. -/
def shifted (m : Mat) (t : ℝ) : Mat := fun a b => m a b - if a = b then t else 0

/-- The cofactors of the matrix less its smallest eigenvalue: each row is along the eigenvector. -/
def rows (c : Mat) : Mat := cofactor (shifted (scaled c) (root (det (scaled c))))

/-- The squared length of a row. -/
def len2 (e : Fin 3 → ℝ) : ℝ := ∑ a, e a * e a

/-- The longest row, an earlier one before a later one of the same length. -/
def longest (m : Mat) : Fin 3 → ℝ :=
  if len2 (m 1) ≤ len2 (m 0) ∧ len2 (m 2) ≤ len2 (m 0) then m 0 else if len2 (m 2) ≤ len2 (m 1) then m 1 else m 2

/-- A vector over its length. -/
def unit (e : Fin 3 → ℝ) : Fin 3 → ℝ := fun a => e a * (Real.sqrt (len2 e + tiny))⁻¹

theorem len2_nonneg (e : Fin 3 → ℝ) : 0 ≤ len2 e := Finset.sum_nonneg fun a _ => mul_self_nonneg _

theorem len2_add_pos (e : Fin 3 → ℝ) : 0 < len2 e + tiny := add_pos_of_nonneg_of_pos (len2_nonneg e) tiny_pos

/-- The unit eigenvector of the smallest eigenvalue. -/
def eigenvector (c : Mat) : Fin 3 → ℝ := unit (longest (rows c))

/-! ## The oriented normal and the covariance of normals -/

/-- The sum over the neighbours of the offset's component along `e`. -/
def along (v : Cloud n) (s : Finset (Fin n)) (i : Fin n) (e : Fin 3 → ℝ) : ℝ := ∑ m ∈ s, ∑ a, offset v i m a * e a

/-- The sign, with zero counted positive. -/
def sgn (x : ℝ) : ℝ := if x < 0 then -1 else 1

/-- The normal at point `i`: the smallest eigenvector, turned away from the neighbours. -/
def normal (v : Cloud n) (s : Finset (Fin n)) (r : ℝ) (i : Fin n) : Fin 3 → ℝ := fun a =>
  -sgn (along v s i (eigenvector (cov v s r i))) * eigenvector (cov v s r i) a

/-- The mean normal of sixteen neighbours. -/
def mean (ν : Fin n → Fin 3 → ℝ) (s : Finset (Fin n)) (a : Fin 3) : ℝ := (∑ m ∈ s, ν m a) / 16

/-- The covariance of the normals of sixteen neighbours. -/
def ncov (ν : Fin n → Fin 3 → ℝ) (s : Finset (Fin n)) : Mat := fun a b =>
  (∑ m ∈ s, (ν m a - mean ν s a) * (ν m b - mean ν s b)) / 16

/-- The squared norm of a matrix. -/
def norm2 (c : Mat) : ℝ := ∑ a, ∑ b, c a b * c a b

theorem norm2_nonneg (c : Mat) : 0 ≤ norm2 c :=
  Finset.sum_nonneg fun a _ => Finset.sum_nonneg fun b _ => mul_self_nonneg _

end Cert.Spec
-- ==== Proof.Coe.lean ====
module
public import proofs.«01_k».proof.Proof.Spec
public import Idealize.ShloMosaic.Lib.IdealHost
public import Mathlib.Tactic.NormNum

/-! # Extended reals that are real

  The idealized programs compute in the extended reals. Where every value is real the operations are those of the real
  numbers; this module says so, and reads the constants the programs carry. -/

@[expose] public section

noncomputable section

namespace Cert.Spec

open Idealize.ShloMosaic
open scoped BigOperators

/-! ## Operations on real values -/

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem coe_ite (p : Prop) [Decidable p] (a b : ℝ) : (if p then (a : EReal) else (b : EReal)) = ((if p then a else b : ℝ) : EReal) := by
  split <;> rfl

theorem div_coe' (a : ℝ) {b : ℝ} (h : b ≠ 0) : Ideal.div (a : EReal) (b : EReal) = ((a / b : ℝ) : EReal) := by
  rw [Ideal.div_coe h, ← EReal.coe_mul, mul_one_div]

theorem sqrt_coe' {a : ℝ} (h : 0 ≤ a) : Ideal.sqrt (a : EReal) = ((Real.sqrt a : ℝ) : EReal) := by
  rw [Ideal.sqrt_coe, if_neg (not_lt.mpr h)]

theorem rsqrt_coe' {a : ℝ} (h : 0 < a) : Ideal.rsqrt (a : EReal) = (((Real.sqrt a)⁻¹ : ℝ) : EReal) := by
  rw [Ideal.rsqrt_coe, if_neg (not_lt.mpr h.le), if_neg h.ne']

/-- The reciprocal of the square root, taken in one operation or in two. -/
theorem one_div_sqrt {a : ℝ} (h : 0 ≤ a) : Ideal.div 1 (Ideal.sqrt (a : EReal)) = Ideal.rsqrt (a : EReal) := by
  rcases h.eq_or_lt with rfl | h
  · rw [sqrt_coe' le_rfl, Ideal.rsqrt_coe]; simp [Ideal.div]
  · rw [sqrt_coe' h.le, rsqrt_coe' h, ← EReal.coe_one, div_coe' 1 (Real.sqrt_pos.mpr h).ne', one_div]

/-- A value's sign, with zero's sign replaced by one: the sign operation's way. -/
theorem sign_select (x : ℝ) :
    (if Ideal.sign (x : EReal) = 0 then (1 : EReal) else Ideal.sign (x : EReal)) = ((sgn x : ℝ) : EReal) := by
  rcases lt_trichotomy x 0 with h | rfl | h
  · simp [Ideal.sign_coe, sign_neg h, sgn, h]
  · have h0 : Ideal.sign ((0 : ℝ) : EReal) = 0 := by rw [Ideal.sign_coe, sign_zero]; simp
    rw [h0]; simp [sgn]
  · simp [Ideal.sign_coe, sign_pos h, sgn, not_lt.mpr h.le]

/-! ## The constants -/

theorem ofBits_distFloor : Ideal.ofBits .f32 0x2B8CBCCC#32 = ((distFloor : ℝ) : EReal) := by
  unfold distFloor; simp [Ideal.ofBits, Ideal.ieee, -EReal.coe_mul]; norm_num
theorem ofBits_weightFloor : Ideal.ofBits .f32 0x358637BD#32 = ((weightFloor : ℝ) : EReal) := by
  unfold weightFloor; simp [Ideal.ofBits, Ideal.ieee, -EReal.coe_mul]; norm_num
theorem ofBits_tiny : Ideal.ofBits .f32 0x0DA24260#32 = ((tiny : ℝ) : EReal) := by
  unfold tiny; simp [Ideal.ofBits, Ideal.ieee, -EReal.coe_mul]; norm_num
theorem ofBits_start : Ideal.ofBits .f32 0xC0001062#32 = ((start : ℝ) : EReal) := by
  unfold start; simp [Ideal.ofBits, Ideal.ieee, -EReal.coe_mul, -EReal.coe_neg]; norm_num
/-- The bound under which the kernel would replace a derivative, the single-precision number nearest `1e-20`. -/
def slopeFloor : ℝ := 12379400 / 2 ^ 90
theorem ofBits_slopeFloor : Ideal.ofBits .f32 0x1E3CE508#32 = ((slopeFloor : ℝ) : EReal) := by
  unfold slopeFloor; simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_six : Ideal.ofBits .f32 0x40C00000#32 = ((6 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num
theorem ofBits_sixteenth : Ideal.ofBits .f32 0x3D800000#32 = ((1 / 16 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul, -EReal.coe_neg]; norm_num
theorem ofBits_top : Ideal.ofBits .f32 0x7F800000#32 = ⊤ := by
  simp [Ideal.ofBits, Ideal.ieee]
theorem ofBits_bot : Ideal.ofBits .f32 0xFF800000#32 = ⊥ := by
  simp [Ideal.ofBits, Ideal.ieee]

end Cert.Spec
-- ==== Proof.BlockNear.lean ====
module
public import proofs.«01_k».proof.Proof.Gen.KernelIdeal.Frame
public import proofs.«01_k».proof.Proof.Nearest
public import proofs.«01_k».proof.Proof.Coe
public import Idealize.ShloMosaic.Lib.Pipeline.Value
public import Idealize.ShloMosaic.Lib.Tactic
public import Idealize.ShloMosaic.Lib.Pointwise

/-! # The first kernel's block: neighbours and weights

  Lane `l` of a block belongs to one point of the cloud. Here: the lane's squared distances, the radius the loop finds, the
  mask of the neighbours it cuts out, and the neighbours' weights. -/

@[expose] public section

set_option maxRecDepth 16384

noncomputable section

open Idealize.ShloMosaic Idealize.ShloMosaic.TcCoe Idealize.SL.Sem Idealize.ShloMosaic.Pointwise
open scoped BigOperators

namespace Cert.KernelIdeal.Block

open Cert.KernelIdeal Cert.KernelIdeal.Gen Cert.Spec

/-- A block's operands hold, in lane `l`, the cloud `v` (all points) and its point `i`. -/
structure Lane (x0 : Vec Ideal S1x2048x3 .f32) (x1 : Vec Ideal S1x3x512 .f32) (l : Fin 512) (v : Cloud 2048) (i : Fin 2048) : Prop where
  all : ∀ m a, x0 (ix3 0 m a) = (v m a : EReal)
  one : ∀ a, x1 (ix3 0 a l) = (v i a : EReal)

/-- The squared radius the loop finds, as a row over the lanes. -/
def radius (x0 : Vec Ideal S1x2048x3 .f32) (x1 : Vec Ideal S1x3x512 .f32) : FVec Ideal S1x512 .f32 :=
  Scf.fold (fun (_ : Fin k0_t1_loop.trips) r => k0_pay10 (F := Ideal) x0 x1 r) (k0_pay9 (F := Ideal))

variable {x0 : Vec Ideal S1x2048x3 .f32} {x1 : Vec Ideal S1x3x512 .f32} {l : Fin 512} {v : Cloud 2048} {i : Fin 2048}

theorem Lane.offset0 (h : Lane x0 x1 l v i) (m : Fin 2048) : k0_pay5 (F := Ideal) x0 x1 (ix2 m l) = (offset v i m 0 : EReal) := by
  pointwise [k0_pay5, k0_pay4, k0_pay3]
  rw [h.all, h.one, ← EReal.coe_sub]; rfl

theorem Lane.offset1 (h : Lane x0 x1 l v i) (m : Fin 2048) : k0_pay6 (F := Ideal) x0 x1 (ix2 m l) = (offset v i m 1 : EReal) := by
  pointwise [k0_pay6, k0_pay4, k0_pay3]
  rw [h.all, h.one, ← EReal.coe_sub]; rfl

theorem Lane.offset2 (h : Lane x0 x1 l v i) (m : Fin 2048) : k0_pay7 (F := Ideal) x0 x1 (ix2 m l) = (offset v i m 2 : EReal) := by
  pointwise [k0_pay7, k0_pay4, k0_pay3]
  rw [h.all, h.one, ← EReal.coe_sub]; rfl

theorem Lane.dist2 (h : Lane x0 x1 l v i) (m : Fin 2048) : k0_pay8 (F := Ideal) x0 x1 (ix2 m l) = (Spec.dist2 v i m : EReal) := by
  pointwise [k0_pay8]
  rw [h.offset0, h.offset1, h.offset2]
  simp only [← EReal.coe_mul, ← EReal.coe_add, Spec.dist2, Fin.sum_univ_three]

/-- One trip of the loop steps to the next distance above. -/
theorem Lane.trip (h : Lane x0 x1 l v i) (r : FVec Ideal S1x512 .f32) :
    k0_pay10 (F := Ideal) x0 x1 r (ix2 0 l) = nextAbove (Spec.dist2 v i) (r (ix2 0 l)) := by
  pointwise [k0_pay10]
  simp only [h.dist2]
  rw [show Ideal.ofBits FTy.f32 2139095040#32 = ⊤ from ofBits_top]
  rfl

/-- The loop ends at the squared distance of the sixteenth nearest. -/
theorem Lane.radius (h : Lane x0 x1 l v i) {nb : Fin 17 → Fin 2048} (hn : Nearest (Spec.dist2 v i) nb) :
    Block.radius x0 x1 (ix2 0 l) = (Spec.dist2 v i (nb 15) : EReal) := by
  have h0 := hn.first (dist2_nonneg v i) (dist2_self v i)
  have hk : ∀ k : ℕ, ((k0_pay10 (F := Ideal) x0 x1)^[k] (k0_pay9 (F := Ideal))) (ix2 0 l) = (nextAbove (Spec.dist2 v i))^[k] 0 := by
    intro k
    induction k with
    | zero => simp only [Function.iterate_zero_apply]; pointwise [k0_pay9]
    | succ k ih => rw [Function.iterate_succ_apply', Function.iterate_succ_apply', h.trip, ih]
  unfold Block.radius
  rw [Scf.fold_eq, List.foldl_const, List.length_finRange, hk]
  exact hn.iterate h0 15 (by decide)

section
variable {r : ℝ} {ρ : FVec Ideal S1x512 .f32}

/-- The mask is one at the neighbours. -/
theorem Lane.mask (h : Lane x0 x1 l v i) (hr : ρ (ix2 0 l) = (r : EReal)) (m : Fin 2048) :
    k0_pay11 (F := Ideal) x0 x1 ρ (ix2 m l) = ((if m ∈ near (Spec.dist2 v i) r then 1 else 0 : ℝ) : EReal) := by
  pointwise [k0_pay11]
  rw [h.dist2, hr]
  show (((BitVec.setWidth 32 (BitVec.ofBool (decide ((Spec.dist2 v i m : EReal) ≤ (r : EReal))))).toInt : ℝ) : EReal) = _
  by_cases hm : Spec.dist2 v i m ≤ r
  · rw [if_pos (mem_near.mpr hm), decide_eq_true (EReal.coe_le_coe_iff.mpr hm),
      show (BitVec.setWidth 32 (BitVec.ofBool true)).toInt = 1 by decide]; norm_num
  · rw [if_neg (fun hc => hm (mem_near.mp hc)), decide_eq_false (fun hc => hm (EReal.coe_le_coe_iff.mp hc)),
      show (BitVec.setWidth 32 (BitVec.ofBool false)).toInt = 0 by decide]; norm_num

/-- The weights: those of the neighbours, zero elsewhere. -/
theorem Lane.weights (h : Lane x0 x1 l v i) (hr : ρ (ix2 0 l) = (r : EReal)) (hr0 : 0 ≤ r) (m : Fin 2048) :
    k0_pay12 (F := Ideal) x0 x1 ρ (ix2 m l)
      = ((if m ∈ near (Spec.dist2 v i) r then weight r (Spec.dist2 v i m) else 0 : ℝ) : EReal) := by
  pointwise [k0_pay12]
  rw [h.mask hr, h.dist2, hr, show Ideal.ofBits FTy.f32 730643660#32 = (distFloor : EReal) from ofBits_distFloor,
    show Ideal.ofBits FTy.f32 897988541#32 = (weightFloor : EReal) from ofBits_weightFloor, ← EReal.coe_add, ← EReal.coe_add,
    sqrt_coe' (add_nonneg hr0 distFloor_pos.le), sqrt_coe' (add_nonneg (dist2_nonneg v i m) distFloor_pos.le), ← EReal.coe_sub,
    ← EReal.coe_zero, coe_max, ← EReal.coe_mul, ← EReal.coe_add]
  congr 1
  by_cases hm : m ∈ near (Spec.dist2 v i) r
  · rw [if_pos hm, if_pos hm, mul_one]; rfl
  · rw [if_neg hm, if_neg hm, mul_zero, add_zero, max_eq_right]
    rw [mem_near, not_le] at hm
    exact sub_nonpos.mpr (Real.sqrt_le_sqrt (by linarith))

end

end Cert.KernelIdeal.Block
-- ==== Proof.BlockCov.lean ====
module
public import proofs.«01_k».proof.Proof.BlockNear
public import Mathlib.Algebra.BigOperators.Ring.Finset
public import Mathlib.Tactic.Ring

/-! # The first kernel's block: the weighted covariance

  From a lane's offsets and weights, the six different entries of the neighbourhood's covariance. -/

@[expose] public section

set_option maxRecDepth 16384

noncomputable section

open Idealize.ShloMosaic Idealize.ShloMosaic.TcCoe Idealize.SL.Sem Idealize.ShloMosaic.Pointwise
open scoped BigOperators

namespace Cert.KernelIdeal.Block

open Cert.KernelIdeal Cert.KernelIdeal.Gen Cert.Spec

/-- The neighbours of point `i` within squared radius `r`. -/
abbrev nbhd (v : Cloud 2048) (i : Fin 2048) (r : ℝ) : Finset (Fin 2048) := near (Spec.dist2 v i) r

/-- The weight of a point of the cloud: zero off the neighbourhood. -/
def allWeight (v : Cloud 2048) (i : Fin 2048) (r : ℝ) (m : Fin 2048) : ℝ :=
  if m ∈ nbhd v i r then weight r (Spec.dist2 v i m) else 0

/-- A sum over the whole cloud with a factor that is zero off a set is the sum over the set. -/
theorem sum_mask {ι : Type} [Fintype ι] [DecidableEq ι] (s : Finset ι) (w f : ι → ℝ) :
    ∑ m, (if m ∈ s then w m else 0) * f m = ∑ m ∈ s, w m * f m := by
  simp only [ite_mul, zero_mul]
  rw [Finset.sum_ite_mem, Finset.univ_inter]

theorem sum_allWeight (v : Cloud 2048) (i : Fin 2048) (r : ℝ) :
    ∑ m, allWeight v i r m = ∑ m ∈ nbhd v i r, weight r (Spec.dist2 v i m) := by
  unfold allWeight
  rw [Finset.sum_ite_mem, Finset.univ_inter]

theorem sum_allWeight_mul (v : Cloud 2048) (i : Fin 2048) (r : ℝ) (a b : Fin 3) :
    ∑ m, allWeight v i r m * offset v i m a * offset v i m b
      = ∑ m ∈ nbhd v i r, weight r (Spec.dist2 v i m) * offset v i m a * offset v i m b := by
  simp only [mul_assoc]
  exact sum_mask _ _ _

/-- The weights do not sum to zero: the point is its own neighbour. -/
theorem weights_ne_zero (v : Cloud 2048) (i : Fin 2048) {r : ℝ} (hr : 0 ≤ r) : ∑ m, allWeight v i r m ≠ 0 := by
  rw [sum_allWeight]
  have hi : i ∈ nbhd v i r := mem_near.mpr (by rw [dist2_self]; exact hr)
  exact (Finset.sum_pos (fun m _ => weight_pos _ _) ⟨i, hi⟩).ne'

variable {l : Fin 512} {v : Cloud 2048} {i : Fin 2048} {r : ℝ}
variable {v8 v13 v18 v43 : FVec Ideal S2048x512 .f32}

/-- The reciprocal of the weights' sum. -/
theorem inv_weights (hr : 0 ≤ r) (hw : ∀ m, v43 (ix2 m l) = (allWeight v i r m : EReal)) :
    k0_pay19 (F := Ideal) v43 (ix2 0 l) = ((1 / ∑ m, allWeight v i r m : ℝ) : EReal) := by
  pointwise [k0_pay19]
  simp only [hw, coe_sum]
  rw [← EReal.coe_one, div_coe' 1 (weights_ne_zero v i hr)]

theorem cov_eq (v : Cloud 2048) (i : Fin 2048) (r : ℝ) (a b : Fin 3) :
    (∑ m, allWeight v i r m * offset v i m a * offset v i m b) * (1 / ∑ m, allWeight v i r m) = cov v (nbhd v i r) r i a b := by
  rw [sum_allWeight_mul, sum_allWeight, mul_one_div]; rfl

/-- Half the sum of an entry and its transpose is the entry. -/
theorem cov_half (v : Cloud 2048) (i : Fin 2048) (r : ℝ) (a b : Fin 3) :
    1 / 2 * ((∑ m, allWeight v i r m * offset v i m a * offset v i m b) + ∑ m, allWeight v i r m * offset v i m b * offset v i m a)
      * (1 / ∑ m, allWeight v i r m) = cov v (nbhd v i r) r i a b := by
  rw [← cov_eq, show ∑ m, allWeight v i r m * offset v i m b * offset v i m a
    = ∑ m, allWeight v i r m * offset v i m a * offset v i m b from Finset.sum_congr rfl fun m _ => by ring]
  ring

section
variable (hr : 0 ≤ r) (hw : ∀ m, v43 (ix2 m l) = (allWeight v i r m : EReal))
  (h0 : ∀ m, v8 (ix2 m l) = (offset v i m 0 : EReal)) (h1 : ∀ m, v13 (ix2 m l) = (offset v i m 1 : EReal))
  (h2 : ∀ m, v18 (ix2 m l) = (offset v i m 2 : EReal))
include hr hw

include h0 in
theorem cov00 : k0_pay20 (F := Ideal) v8 v43 (ix2 0 l) = (cov v (nbhd v i r) r i 0 0 : EReal) := by
  pointwise [k0_pay20, k0_pay13, k0_pay16]
  rw [inv_weights hr hw]
  simp only [hw, h0, ← EReal.coe_mul, coe_sum, cov_eq]

include h1 in
theorem cov11 : k0_pay21 (F := Ideal) v13 v43 (ix2 0 l) = (cov v (nbhd v i r) r i 1 1 : EReal) := by
  pointwise [k0_pay21, k0_pay14, k0_pay17]
  rw [inv_weights hr hw]
  simp only [hw, h1, ← EReal.coe_mul, coe_sum, cov_eq]

include h2 in
theorem cov22 : k0_pay22 (F := Ideal) v18 v43 (ix2 0 l) = (cov v (nbhd v i r) r i 2 2 : EReal) := by
  pointwise [k0_pay22, k0_pay15, k0_pay18]
  rw [inv_weights hr hw]
  simp only [hw, h2, ← EReal.coe_mul, coe_sum, cov_eq]

include h0 h1 in
theorem cov01 : k0_pay23 (F := Ideal) v8 v13 v43 (ix2 0 l) = (cov v (nbhd v i r) r i 0 1 : EReal) := by
  pointwise [k0_pay23, k0_pay13, k0_pay14, k0_pay16, k0_pay17]
  rw [inv_weights hr hw, show Ideal.ofBits FTy.f32 1056964608#32 = ((1 / 2 : ℝ) : EReal) from ofBits_half]
  simp only [hw, h0, h1, ← EReal.coe_mul, ← EReal.coe_add, coe_sum, cov_half]

include h0 h2 in
theorem cov02 : k0_pay26 (F := Ideal) (k0_pay19 v43) (k0_pay24 v8 v18 v43) k0_pay25 (ix2 0 l)
    = (cov v (nbhd v i r) r i 0 2 : EReal) := by
  pointwise [k0_pay26, k0_pay24, k0_pay25, k0_pay13, k0_pay15, k0_pay16, k0_pay18]
  rw [inv_weights hr hw, show Ideal.ofBits FTy.f32 1056964608#32 = ((1 / 2 : ℝ) : EReal) from ofBits_half]
  simp only [hw, h0, h2, ← EReal.coe_mul, ← EReal.coe_add, coe_sum, cov_half]

include h1 h2 in
theorem cov12 : k0_pay27 (F := Ideal) (k0_pay14 v13 v43) (k0_pay15 v18 v43) (k0_pay17 v13) (k0_pay18 v18) (k0_pay19 v43) (ix2 0 l)
    = (cov v (nbhd v i r) r i 1 2 : EReal) := by
  pointwise [k0_pay27, k0_pay14, k0_pay15, k0_pay17, k0_pay18]
  rw [inv_weights hr hw, show Ideal.ofBits FTy.f32 1056964608#32 = ((1 / 2 : ℝ) : EReal) from ofBits_half]
  simp only [hw, h1, h2, ← EReal.coe_mul, ← EReal.coe_add, coe_sum, cov_half]
end

end Cert.KernelIdeal.Block
-- ==== Proof.Newton.lean ====
module
public import proofs.«01_k».proof.Proof.Spec
public import Mathlib.Tactic.Linarith
public import Mathlib.Tactic.FieldSimp
public import Mathlib.Tactic.LinearCombination
public import Mathlib.Algebra.Order.BigOperators.Ring.Finset
public import Mathlib.Algebra.BigOperators.Field

/-! # The Newton denominators stay away from zero

  A symmetric matrix of trace zero whose squared entries sum to at most six has determinant at most two; for such a
  determinant every one of the 22 Newton iterates lies below `-1` by at least `2⁻²²`, so the derivative `3 t² - 3` is never
  near zero. This is why a guard on that derivative never changes anything. -/

@[expose] public section

noncomputable section

namespace Cert.Spec

open scoped BigOperators

/-! ## The scaled matrix -/

theorem traceless_symm {c : Mat} (h : ∀ a b, c a b = c b a) (a b : Fin 3) : traceless c a b = traceless c b a := by
  unfold traceless
  rw [h a b]
  by_cases hab : a = b
  · simp [hab]
  · simp [hab, Ne.symm hab]

theorem scaled_symm {c : Mat} (h : ∀ a b, c a b = c b a) (a b : Fin 3) : scaled c a b = scaled c b a := by
  unfold scaled; rw [traceless_symm h]

/-- The scaled matrix has trace zero. -/
theorem trace_scaled (c : Mat) : scaled c 0 0 + scaled c 1 1 + scaled c 2 2 = 0 := by
  have h := (scale_pos c).ne'
  unfold scaled traceless third
  simp only [Fin.sum_univ_three, if_true]
  field_simp
  ring

/-- The squared entries of the scaled matrix sum to at most six. -/
theorem norm2_scaled_le (c : Mat) : norm2 (scaled c) ≤ 6 := by
  have hs := scale_pos c
  have h0 : 0 ≤ norm2 (traceless c) := norm2_nonneg _
  have hle : norm2 (traceless c) / 6 ≤ scale c * scale c := by
    have hr : 0 ≤ Real.sqrt (norm2 (traceless c) / 6) := Real.sqrt_nonneg _
    have hq : Real.sqrt (norm2 (traceless c) / 6) * Real.sqrt (norm2 (traceless c) / 6) = norm2 (traceless c) / 6 :=
      Real.mul_self_sqrt (by positivity)
    have hsc : scale c = Real.sqrt (norm2 (traceless c) / 6) + tiny := rfl
    have ht := tiny_pos
    rw [hsc]
    nlinarith
  have he : norm2 (scaled c) = norm2 (traceless c) / (scale c * scale c) := by
    unfold norm2 scaled
    simp only [Finset.sum_div]
    refine Finset.sum_congr rfl fun a _ => Finset.sum_congr rfl fun b _ => ?_
    field_simp
  rw [he, div_le_iff₀ (by positivity)]
  linarith

/-- The quadratic form of a matrix of trace zero and squared norm at most six is at most twice the squared length. -/
theorem form_le {a : Mat} (ht : a 0 0 + a 1 1 + a 2 2 = 0) (hn : norm2 a ≤ 6) (x : Fin 3 → ℝ) :
    ∑ i, ∑ j, a i j * (x i * x j) ≤ 2 * len2 x := by
  set l := len2 x with hl
  have hl0 : 0 ≤ l := len2_nonneg x
  let y : Mat := fun i j => x i * x j - if i = j then l / 3 else 0
  have hcs := Finset.sum_mul_sq_le_sq_mul_sq (Finset.univ : Finset (Fin 3 × Fin 3)) (fun p => a p.1 p.2) (fun p => y p.1 p.2)
  simp only [Fintype.sum_prod_type] at hcs
  have h1 : ∑ i, ∑ j, a i j * y i j = ∑ i, ∑ j, a i j * (x i * x j) := by
    simp [Fin.sum_univ_three, y]
    linear_combination (-l / 3) * ht
  have h2 : ∑ i, ∑ j, y i j ^ 2 = 2 / 3 * l ^ 2 := by
    simp [Fin.sum_univ_three, y]
    simp only [hl, len2, Fin.sum_univ_three]
    ring
  have h3 : ∑ i, ∑ j, a i j ^ 2 = norm2 a := by simp only [norm2, pow_two]
  rw [h1, h2, h3] at hcs
  have h4 : (∑ i, ∑ j, a i j * (x i * x j)) ^ 2 ≤ (2 * l) ^ 2 := by nlinarith [sq_nonneg l]
  exact abs_le_of_sq_le_sq' h4 (by positivity) |>.2

/-- The determinant of a symmetric matrix of trace zero and squared norm at most six is at most two. -/
theorem det_le_two {a : Mat} (hs : ∀ i j, a i j = a j i) (ht : a 0 0 + a 1 1 + a 2 2 = 0) (hn : norm2 a ≤ 6) : det a ≤ 2 := by
  have f0 := form_le ht hn fun i => a i 0 + if i = 0 then 1 else 0
  have f1 := form_le ht hn fun i => a i 1 + if i = 1 then 1 else 0
  have f2 := form_le ht hn fun i => a i 2 + if i = 2 then 1 else 0
  simp only [len2, Fin.sum_univ_three] at f0 f1 f2
  simp at f0 f1 f2
  simp only [hs 1 0, hs 2 0, hs 2 1] at f0 f1 f2
  simp [det, cofactor, Fin.sum_univ_three]
  simp only [show (1 : Fin 3) + 1 = 2 from rfl, show (2 : Fin 3) + 1 = 0 from rfl, show (1 : Fin 3) + 2 = 0 from rfl,
    show (2 : Fin 3) + 2 = 1 from rfl, hs 1 0, hs 2 0, hs 2 1]
  have h2 : a 2 2 = -(a 0 0) - a 1 1 := by linarith
  rw [h2] at f0 f1 f2 ⊢
  nlinarith

theorem det_scaled_le {c : Mat} (h : ∀ a b, c a b = c b a) : det (scaled c) ≤ 2 :=
  det_le_two (scaled_symm h) (trace_scaled c) (norm2_scaled_le c)

/-! ## The iterates -/

/-- A step from below `-1` by at least `e` lands below `-1` by at least `e / 2`. -/
theorem newton_le {d t e : ℝ} (hd : d ≤ 2) (he : 0 < e) (ht : t ≤ -1 - e) : newton d t ≤ -1 - e / 2 := by
  obtain ⟨x, rfl⟩ : ∃ x, t = -1 - x := ⟨-1 - t, by ring⟩
  have hx : e ≤ x := by linarith
  have hx0 : 0 < x := by linarith
  have hden : 3 * (-1 - x) * (-1 - x) - 3 = 3 * x * (x + 2) := by ring
  have hpos : 0 < 3 * x * (x + 2) := by positivity
  unfold newton
  rw [hden]
  have key : x - x / 2 ≥ 0 := by linarith
  have : -1 - x - ((-1 - x) * (-1 - x) * (-1 - x) - 3 * (-1 - x) - d) / (3 * x * (x + 2)) ≤ -1 - x / 2 := by
    rw [sub_le_iff_le_add, ← sub_le_iff_le_add', le_div_iff₀ hpos]
    nlinarith [pow_pos hx0 3]
  linarith

theorem iterate_le {d : ℝ} (hd : d ≤ 2) (k : ℕ) : (newton d)^[k] start ≤ -1 - (1 / 2) ^ k := by
  induction k with
  | zero => simpa using by linarith [start_le]
  | succ k ih =>
    rw [Function.iterate_succ_apply']
    have h := newton_le hd (by positivity) ih
    rw [pow_succ]
    linarith

/-- The derivative at an iterate, while fewer than 22 steps are taken, is at least `2⁻²²`. -/
theorem slope_ge {d : ℝ} (hd : d ≤ 2) {k : ℕ} (hk : k ≤ 22) :
    (1 / 2) ^ 22 ≤ 3 * (newton d)^[k] start * (newton d)^[k] start - 3 := by
  have h := iterate_le hd k
  have hp : (1 / 2 : ℝ) ^ 22 ≤ (1 / 2) ^ k := pow_le_pow_of_le_one (by norm_num) (by norm_num) hk
  have he : (0 : ℝ) < (1 / 2) ^ 22 := by positivity
  generalize (newton d)^[k] start = t at h ⊢
  generalize (1 / 2 : ℝ) ^ 22 = e at hp he ⊢
  have ht : t ≤ -1 - e := by linarith
  have hsq : (1 + e) * (1 + e) ≤ t * t := by nlinarith
  nlinarith

end Cert.Spec
-- ==== Proof.BlockEig.lean ====
module
public import proofs.«01_k».proof.Proof.BlockCov
public import proofs.«01_k».proof.Proof.Newton

/-! # The first kernel's block: the smallest eigenvector

  From the six different entries of a lane's covariance: the scaled matrix, the root of its characteristic polynomial, and
  the unit eigenvector. The kernel's guard on the Newton derivative never acts, because the derivative stays away from zero. -/

@[expose] public section

set_option maxRecDepth 16384

noncomputable section

open Idealize.ShloMosaic Idealize.ShloMosaic.TcCoe Idealize.SL.Sem Idealize.ShloMosaic.Pointwise
open scoped BigOperators

namespace Cert.KernelIdeal.Block

open Cert.KernelIdeal Cert.KernelIdeal.Gen Cert.Spec

/-- Six rows hold, in lane `l`, the six different entries of a symmetric matrix. -/
structure Entries (l : Fin 512) (c : Mat) (xx yy zz xy xz yz : FVec Ideal S1x512 .f32) : Prop where
  symm : ∀ a b, c a b = c b a
  xx : xx (ix2 0 l) = (c 0 0 : EReal)
  yy : yy (ix2 0 l) = (c 1 1 : EReal)
  zz : zz (ix2 0 l) = (c 2 2 : EReal)
  xy : xy (ix2 0 l) = (c 0 1 : EReal)
  xz : xz (ix2 0 l) = (c 0 2 : EReal)
  yz : yz (ix2 0 l) = (c 1 2 : EReal)

theorem named_third : Named.named (F := Ideal) κ "third" (φ := .f32) 1051372203#32 = ((1 / 3 : ℝ) : EReal) := rfl
theorem named_sixth : Named.named (F := Ideal) κ "sixth" (φ := .f32) 1042983595#32 = ((1 / 6 : ℝ) : EReal) := rfl

variable {l : Fin 512} {c : Mat}

/-! ## The scaled matrix -/

section
variable {v51 v54 v58 v60 : FVec Ideal S2048x512 .f32} {v62 v66 v70 v74 v84 v91 v92 : FVec Ideal S1x512 .f32}
variable (h : Entries l c v66 v70 v74 v84 (k0_pay26 v62 v91 v92) (k0_pay27 v51 v54 v58 v60 v62))
include h

theorem third_eq : k0_pay28 (F := Ideal) v66 v70 v74 (ix2 0 l) = (third c : EReal) := by
  pointwise [k0_pay28]
  rw [h.xx, h.yy, h.zz, named_third, ← EReal.coe_add, ← EReal.coe_add, ← EReal.coe_mul]
  congr 1
  rw [third, Fin.sum_univ_three]; ring

theorem traceless00 : k0_pay29 (F := Ideal) v66 v70 v74 (ix2 0 l) = (traceless c 0 0 : EReal) := by
  pointwise [k0_pay29]
  rw [third_eq h, h.xx, ← EReal.coe_sub]; simp [traceless]
theorem traceless11 : k0_pay30 (F := Ideal) v66 v70 v74 (ix2 0 l) = (traceless c 1 1 : EReal) := by
  pointwise [k0_pay30]
  rw [third_eq h, h.yy, ← EReal.coe_sub]; simp [traceless]
theorem traceless22 : k0_pay31 (F := Ideal) v66 v70 v74 (ix2 0 l) = (traceless c 2 2 : EReal) := by
  pointwise [k0_pay31]
  rw [third_eq h, h.zz, ← EReal.coe_sub]; simp [traceless]

/-- The reciprocal of the scale. -/
theorem inv_scale : k0_pay32 (F := Ideal) v51 v54 v58 v60 v62 v66 v70 v74 v84 v91 v92 (ix2 0 l) = ((1 / scale c : ℝ) : EReal) := by
  pointwise [k0_pay32]
  rw [traceless00 h, traceless11 h, traceless22 h, h.xy, h.xz, h.yz, named_sixth,
    show Ideal.ofBits FTy.f32 1073741824#32 = ((2 : ℝ) : EReal) from ofBits_two,
    show Ideal.ofBits FTy.f32 228737632#32 = ((tiny : ℝ) : EReal) from ofBits_tiny]
  simp only [← EReal.coe_mul, ← EReal.coe_add]
  have he : (traceless c 0 0 * traceless c 0 0 + traceless c 1 1 * traceless c 1 1 + traceless c 2 2 * traceless c 2 2
      + 2 * (c 0 1 * c 0 1 + c 0 2 * c 0 2 + c 1 2 * c 1 2)) * (1 / 6) = (∑ a, ∑ b, traceless c a b * traceless c a b) / 6 := by
    simp only [Fin.sum_univ_three]
    simp [traceless, h.symm 1 0, h.symm 2 0, h.symm 2 1]
    ring
  rw [he, sqrt_coe' (by have := norm2_nonneg (traceless c); unfold norm2 at this; positivity), ← EReal.coe_add, ← EReal.coe_one]
  exact div_coe' 1 (scale_pos c).ne'

/-- The six different entries of the scaled matrix. -/
theorem scaled_entries : Entries l (scaled c) (k0_pay33 v51 v54 v58 v60 v62 v66 v70 v74 v84 v91 v92)
    (k0_pay34 v51 v54 v58 v60 v62 v66 v70 v74 v84 v91 v92) (k0_pay35 v51 v54 v58 v60 v62 v66 v70 v74 v84 v91 v92)
    (k0_pay36 v51 v54 v58 v60 v62 v66 v70 v74 v84 v91 v92) (k0_pay37 v51 v54 v58 v60 v62 v66 v70 v74 v84 v91 v92)
    (k0_pay38 v51 v54 v58 v60 v62 v66 v70 v74 v84 v91 v92) where
  symm := scaled_symm h.symm
  xx := by pointwise [k0_pay33]; rw [inv_scale h, traceless00 h, ← EReal.coe_mul, mul_one_div]; rfl
  yy := by pointwise [k0_pay34]; rw [inv_scale h, traceless11 h, ← EReal.coe_mul, mul_one_div]; rfl
  zz := by pointwise [k0_pay35]; rw [inv_scale h, traceless22 h, ← EReal.coe_mul, mul_one_div]; rfl
  xy := by pointwise [k0_pay36]; rw [inv_scale h, h.xy, ← EReal.coe_mul, mul_one_div]; simp [scaled, traceless]
  xz := by pointwise [k0_pay37]; rw [inv_scale h, h.xz, ← EReal.coe_mul, mul_one_div]; simp [scaled, traceless]
  yz := by pointwise [k0_pay38]; rw [inv_scale h, h.yz, ← EReal.coe_mul, mul_one_div]; simp [scaled, traceless]

/-- The two products the kernel takes of the scaled matrix before its loop. -/
theorem products : k0_pay39 (F := Ideal) v51 v54 v58 v60 v62 v66 v70 v74 v84 v91 v92 (ix2 0 l)
      = ((scaled c 0 0 * (scaled c 1 1 * scaled c 2 2 - scaled c 1 2 * scaled c 1 2) : ℝ) : EReal)
    ∧ k0_pay40 (F := Ideal) v51 v54 v58 v60 v62 v66 v70 v74 v84 v91 v92 (ix2 0 l)
      = ((scaled c 0 1 * scaled c 2 2 - scaled c 1 2 * scaled c 0 2 : ℝ) : EReal) := by
  have e := scaled_entries h
  constructor
  · pointwise [k0_pay39]
    rw [e.xx, e.yy, e.zz, e.yz]
    simp only [← EReal.coe_mul, ← EReal.coe_sub]
  · pointwise [k0_pay40]
    rw [e.xy, e.xz, e.zz, e.yz]
    simp only [← EReal.coe_mul, ← EReal.coe_sub]

end

/-! ## The root -/

/-- A determinant written out along its first row. -/
theorem det_eq {m : Mat} (h : ∀ a b, m a b = m b a) :
    m 0 0 * (m 1 1 * m 2 2 - m 1 2 * m 1 2) - m 0 1 * (m 0 1 * m 2 2 - m 1 2 * m 0 2) + m 0 2 * (m 0 1 * m 1 2 - m 1 1 * m 0 2) = det m := by
  simp [det, cofactor, Fin.sum_univ_three]
  simp only [show (1 : Fin 3) + 1 = 2 from rfl, show (2 : Fin 3) + 1 = 0 from rfl, show (1 : Fin 3) + 2 = 0 from rfl,
    show (2 : Fin 3) + 2 = 1 from rfl, h 1 0, h 2 0, h 2 1]
  ring

section
variable {xx yy zz xy xz yz p q : FVec Ideal S1x512 .f32} (h : Entries l (scaled c) xx yy zz xy xz yz) (hc : ∀ a b, c a b = c b a)
  (hp : p (ix2 0 l) = ((scaled c 0 0 * (scaled c 1 1 * scaled c 2 2 - scaled c 1 2 * scaled c 1 2) : ℝ) : EReal))
  (hq : q (ix2 0 l) = ((scaled c 0 1 * scaled c 2 2 - scaled c 1 2 * scaled c 0 2 : ℝ) : EReal))
include h hc hp hq

/-- A trip from a point where the derivative is not small is a Newton step. -/
theorem newton_trip {t : FVec Ideal S1x512 .f32} {s : ℝ} (ht : t (ix2 0 l) = (s : EReal)) (hs : (1 / 2) ^ 22 ≤ 3 * s * s - 3) :
    k0_pay42 (F := Ideal) yy xy xz yz p q t (ix2 0 l) = (newton (det (scaled c)) s : EReal) := by
  have hs0 : (0 : ℝ) < 3 * s * s - 3 := lt_of_lt_of_le (by positivity) hs
  pointwise [k0_pay42]
  rw [ht, h.yy, h.xy, h.xz, h.yz, hp, hq, show Ideal.ofBits FTy.f32 1077936128#32 = ((3 : ℝ) : EReal) from ofBits_three,
    show Ideal.ofBits FTy.f32 507307272#32 = ((slopeFloor : ℝ) : EReal) from ofBits_slopeFloor]
  have hg : ¬ FloatOps.absf (F := Ideal) (φ := .f32) (((3 : ℝ) : EReal) * (s : EReal) * (s : EReal) - ((3 : ℝ) : EReal)) < (slopeFloor : EReal) := by
    rw [← EReal.coe_mul, ← EReal.coe_mul, ← EReal.coe_sub]
    show ¬ max ((3 * s * s - 3 : ℝ) : EReal) (-((3 * s * s - 3 : ℝ) : EReal)) < _
    rw [← EReal.coe_neg, coe_max, max_eq_left (by linarith), EReal.coe_lt_coe_iff, not_lt]
    refine le_trans ?_ hs
    unfold slopeFloor; norm_num
  rw [if_neg hg]
  simp only [← EReal.coe_mul, ← EReal.coe_sub, ← EReal.coe_add]
  rw [div_coe' _ hs0.ne', ← EReal.coe_sub, det_eq h.symm]
  rfl

/-- The loop ends at the root. -/
theorem root_eq : Scf.fold (fun (_ : Fin k0_t2_loop.trips) t => k0_pay42 (F := Ideal) yy xy xz yz p q t) (k0_pay41 (F := Ideal)) (ix2 0 l)
    = (root (det (scaled c)) : EReal) := by
  have hd := det_scaled_le hc
  have hk : ∀ k : ℕ, k ≤ 22 → ((k0_pay42 (F := Ideal) yy xy xz yz p q)^[k] (k0_pay41 (F := Ideal))) (ix2 0 l)
      = ((newton (det (scaled c)))^[k] start : EReal) := by
    intro k
    induction k with
    | zero =>
      intro _
      simp only [Function.iterate_zero_apply]
      pointwise [k0_pay41]
      exact ofBits_start
    | succ k ih =>
      intro hk
      rw [Function.iterate_succ_apply', Function.iterate_succ_apply',
        newton_trip h hc hp hq (ih (by omega)) (slope_ge hd (by omega))]
  rw [Scf.fold_eq, List.foldl_const, List.length_finRange]
  exact hk 22 le_rfl

end

/-! ## The eigenvector -/

section
variable {xx yy zz xy xz yz t : FVec Ideal S1x512 .f32} (h : Entries l (scaled c) xx yy zz xy xz yz)
  (ht : t (ix2 0 l) = (root (det (scaled c)) : EReal))
include h ht

/-- The cofactors, row by row. -/
theorem rows_eq :
    (k0_pay46 (F := Ideal) yy zz yz t (ix2 0 l) = (rows c 0 0 : EReal) ∧ k0_pay47 (F := Ideal) zz xy xz yz t (ix2 0 l) = (rows c 0 1 : EReal)
      ∧ k0_pay48 (F := Ideal) yy xy xz yz t (ix2 0 l) = (rows c 0 2 : EReal))
    ∧ (k0_pay49 (F := Ideal) zz xy xz yz t (ix2 0 l) = (rows c 1 0 : EReal) ∧ k0_pay50 (F := Ideal) xx zz xz t (ix2 0 l) = (rows c 1 1 : EReal)
      ∧ k0_pay51 (F := Ideal) xx xy xz yz t (ix2 0 l) = (rows c 1 2 : EReal))
    ∧ (k0_pay52 (F := Ideal) yy xy xz yz t (ix2 0 l) = (rows c 2 0 : EReal) ∧ k0_pay53 (F := Ideal) xx xy xz yz t (ix2 0 l) = (rows c 2 1 : EReal)
      ∧ k0_pay54 (F := Ideal) xx yy xy t (ix2 0 l) = (rows c 2 2 : EReal)) := by
  have s := h.symm
  refine ⟨⟨?_, ?_, ?_⟩, ⟨?_, ?_, ?_⟩, ?_, ?_, ?_⟩
  all_goals
    pointwise [k0_pay46, k0_pay47, k0_pay48, k0_pay49, k0_pay50, k0_pay51, k0_pay52, k0_pay53, k0_pay54, k0_pay43, k0_pay44, k0_pay45]
    simp only [h.xx, h.yy, h.zz, h.xy, h.xz, h.yz, ht, ← EReal.coe_sub, ← EReal.coe_mul]
    congr 1
    simp [rows, cofactor, shifted, show (1 : Fin 3) + 1 = 2 from rfl, show (2 : Fin 3) + 1 = 0 from rfl,
      show (1 : Fin 3) + 2 = 0 from rfl, show (2 : Fin 3) + 2 = 1 from rfl, s 1 0, s 2 0, s 2 1]
    try ring

/-- The rows' squared lengths. -/
theorem len_eq : k0_pay55 (F := Ideal) yy zz xy xz yz t (ix2 0 l) = (len2 (rows c 0) : EReal)
    ∧ k0_pay56 (F := Ideal) xx zz xy xz yz t (ix2 0 l) = (len2 (rows c 1) : EReal)
    ∧ k0_pay57 (F := Ideal) xx yy xy xz yz t (ix2 0 l) = (len2 (rows c 2) : EReal) := by
  obtain ⟨⟨a0, a1, a2⟩, ⟨b0, b1, b2⟩, c0, c1, c2⟩ := rows_eq h ht
  refine ⟨?_, ?_, ?_⟩
  · pointwise [k0_pay55]; rw [a0, a1, a2]; simp only [← EReal.coe_mul, ← EReal.coe_add, len2, Fin.sum_univ_three]
  · pointwise [k0_pay56]; rw [b0, b1, b2]; simp only [← EReal.coe_mul, ← EReal.coe_add, len2, Fin.sum_univ_three]
  · pointwise [k0_pay57]; rw [c0, c1, c2]; simp only [← EReal.coe_mul, ← EReal.coe_add, len2, Fin.sum_univ_three]

end

/-- Nine rows hold a matrix, four more its rows' squared lengths and a comparison of the first two. -/
structure Rows (l : Fin 512) (m : Mat) (v160 v163 v166 v169 v172 v175 v178 v181 v184 v189 v194 v199 : FVec Ideal S1x512 .f32)
    (v200 : IVec S1x512 1) : Prop where
  e00 : v160 (ix2 0 l) = (m 0 0 : EReal)
  e01 : v163 (ix2 0 l) = (m 0 1 : EReal)
  e02 : v166 (ix2 0 l) = (m 0 2 : EReal)
  e10 : v169 (ix2 0 l) = (m 1 0 : EReal)
  e11 : v172 (ix2 0 l) = (m 1 1 : EReal)
  e12 : v175 (ix2 0 l) = (m 1 2 : EReal)
  e20 : v178 (ix2 0 l) = (m 2 0 : EReal)
  e21 : v181 (ix2 0 l) = (m 2 1 : EReal)
  e22 : v184 (ix2 0 l) = (m 2 2 : EReal)
  n0 : v189 (ix2 0 l) = (len2 (m 0) : EReal)
  n1 : v194 (ix2 0 l) = (len2 (m 1) : EReal)
  n2 : v199 (ix2 0 l) = (len2 (m 2) : EReal)
  ge : v200 (ix2 0 l) = BitVec.ofBool (decide (len2 (m 1) ≤ len2 (m 0)))

/-- The kernel's selection among three rows. -/
theorem pick (m : Mat) (a : Fin 3) :
    Scalar.select (IntOp.andi (BitVec.ofBool (decide (len2 (m 1) ≤ len2 (m 0)))) (BitVec.ofBool (decide ((len2 (m 2) : EReal) ≤ len2 (m 0)))))
      (m 0 a : EReal) (if (len2 (m 2) : EReal) ≤ len2 (m 1) then (m 1 a : EReal) else m 2 a) = (longest m a : EReal) := by
  simp only [EReal.coe_le_coe_iff, longest]
  by_cases h1 : len2 (m 1) ≤ len2 (m 0) <;> by_cases h2 : len2 (m 2) ≤ len2 (m 0) <;> by_cases h3 : len2 (m 2) ≤ len2 (m 1) <;>
    simp [h1, h2, h3, Scalar.select, IntOp.andi]

/-- The kernel's sign: one comparison, guarded by a test for zero, and zero replaced by one. -/
theorem sign_guarded (x : ℝ) :
    (if (if 0 < FloatOps.absf (F := Ideal) (φ := .f32) (x : EReal) then (if (x : EReal) < 0 then Ideal.ofBits FTy.f32 3212836864#32 else 1) else (x : EReal)) = 0
      then (1 : EReal)
      else if 0 < FloatOps.absf (F := Ideal) (φ := .f32) (x : EReal) then (if (x : EReal) < 0 then Ideal.ofBits FTy.f32 3212836864#32 else 1) else (x : EReal))
      = (sgn x : EReal) := by
  have ha : FloatOps.absf (F := Ideal) (φ := .f32) (x : EReal) = ((|x| : ℝ) : EReal) := by
    show max (x : EReal) (-(x : EReal)) = _
    rw [← EReal.coe_neg, coe_max]; rfl
  rw [ha, show Ideal.ofBits FTy.f32 3212836864#32 = ((-1 : ℝ) : EReal) from ofBits_neg_one]
  simp only [EReal.coe_pos, EReal.coe_neg', abs_pos]
  rcases lt_trichotomy x 0 with h | rfl | h
  · simp [h, h.ne, sgn]
  · simp [sgn]
  · simp [h.ne', not_lt.mpr h.le, sgn]

section
variable {m : Mat} {v160 v163 v166 v169 v172 v175 v178 v181 v184 v189 v194 v199 : FVec Ideal S1x512 .f32} {v200 : IVec S1x512 1}
  (h : Rows l m v160 v163 v166 v169 v172 v175 v178 v181 v184 v189 v194 v199 v200)
include h

/-- The longest row. -/
theorem longest_eq : k0_pay61 (F := Ideal) v160 v169 v178 v189 v194 v199 v200 (ix2 0 l) = (longest m 0 : EReal)
    ∧ k0_pay62 (F := Ideal) v163 v172 v181 v189 v194 v199 v200 (ix2 0 l) = (longest m 1 : EReal)
    ∧ k0_pay63 (F := Ideal) v166 v175 v184 v189 v194 v199 v200 (ix2 0 l) = (longest m 2 : EReal) := by
  refine ⟨?_, ?_, ?_⟩
  · pointwise [k0_pay61, k0_pay59, k0_pay60]
    rw [h.ge, h.n0, h.n1, h.n2, h.e00, h.e10, h.e20]
    exact pick m 0
  · pointwise [k0_pay62, k0_pay59, k0_pay60]
    rw [h.ge, h.n0, h.n1, h.n2, h.e01, h.e11, h.e21]
    exact pick m 1
  · pointwise [k0_pay63, k0_pay59, k0_pay60]
    rw [h.ge, h.n0, h.n1, h.n2, h.e02, h.e12, h.e22]
    exact pick m 2

/-- The unit eigenvector. -/
theorem unit_eq : k0_pay65 (F := Ideal) v160 v163 v166 v169 v172 v175 v178 v181 v184 v189 v194 v199 v200 (ix2 0 l) = (unit (longest m) 0 : EReal)
    ∧ k0_pay66 (F := Ideal) v160 v163 v166 v169 v172 v175 v178 v181 v184 v189 v194 v199 v200 (ix2 0 l) = (unit (longest m) 1 : EReal)
    ∧ k0_pay67 (F := Ideal) v160 v163 v166 v169 v172 v175 v178 v181 v184 v189 v194 v199 v200 (ix2 0 l) = (unit (longest m) 2 : EReal) := by
  obtain ⟨e0, e1, e2⟩ := longest_eq h
  have hr : k0_pay64 (F := Ideal) v160 v163 v166 v169 v172 v175 v178 v181 v184 v189 v194 v199 v200 (ix2 0 l)
      = ((√(len2 (longest m) + tiny))⁻¹ : ℝ) := by
    pointwise [k0_pay64]
    rw [e0, e1, e2, show Ideal.ofBits FTy.f32 228737632#32 = ((tiny : ℝ) : EReal) from ofBits_tiny]
    simp only [← EReal.coe_mul, ← EReal.coe_add]
    rw [show longest m 0 * longest m 0 + longest m 1 * longest m 1 + longest m 2 * longest m 2 = len2 (longest m) by
      rw [len2, Fin.sum_univ_three]]
    exact rsqrt_coe' (len2_add_pos _)
  refine ⟨?_, ?_, ?_⟩
  · pointwise [k0_pay65]; rw [e0, hr, ← EReal.coe_mul]; rfl
  · pointwise [k0_pay66]; rw [e1, hr, ← EReal.coe_mul]; rfl
  · pointwise [k0_pay67]; rw [e2, hr, ← EReal.coe_mul]; rfl

/-- The sign that turns the eigenvector: that of the neighbours' offsets along it. -/
theorem sign_eq {n : ℕ} {v : Cloud 2048} {i : Fin 2048} {s : Finset (Fin 2048)} {v30 d0 d1 d2 : FVec Ideal S2048x512 .f32}
    (hm : ∀ k : Fin 2048, v30 (ix2 k l) = ((if k ∈ s then 1 else 0 : ℝ) : EReal))
    (h0 : ∀ k : Fin 2048, d0 (ix2 k l) = (offset v i k 0 : EReal)) (h1 : ∀ k : Fin 2048, d1 (ix2 k l) = (offset v i k 1 : EReal))
    (h2 : ∀ k : Fin 2048, d2 (ix2 k l) = (offset v i k 2 : EReal)) :
    k0_pay68 (F := Ideal) v30 d0 d1 d2 v160 v163 v166 v169 v172 v175 v178 v181 v184 v189 v194 v199 v200 (ix2 0 l)
      = (sgn (along v s i (unit (longest m))) : EReal) := by
  obtain ⟨e0, e1, e2⟩ := unit_eq h
  pointwise [k0_pay68]
  simp only [e0, e1, e2, hm, h0, h1, h2]
  have e : (∑ x : Fin 2048, ((if x ∈ s then 1 else 0 : ℝ) : EReal) * (offset v i x 0 : EReal)) * (unit (longest m) 0 : EReal)
      + (∑ x : Fin 2048, ((if x ∈ s then 1 else 0 : ℝ) : EReal) * (offset v i x 1 : EReal)) * (unit (longest m) 1 : EReal)
      + (∑ x : Fin 2048, ((if x ∈ s then 1 else 0 : ℝ) : EReal) * (offset v i x 2 : EReal)) * (unit (longest m) 2 : EReal)
      = (along v s i (unit (longest m)) : EReal) := by
    simp only [← EReal.coe_mul, coe_sum, ← EReal.coe_add]
    congr 1
    simp only [along, Fin.sum_univ_three, Finset.sum_add_distrib, Finset.sum_mul, ite_mul, one_mul, zero_mul, Finset.sum_ite_mem,
      Finset.univ_inter]
  rw [e]
  exact sign_guarded _

end

end Cert.KernelIdeal.Block
-- ==== Proof.BlockA.lean ====
module
public import proofs.«01_k».proof.Proof.BlockEig

/-! # What one block of the first kernel computes

  The values of a block, named in the order they arise, and what they are in a lane: the normal of the lane's point and the
  mask of its neighbours. -/

@[expose] public section

set_option maxRecDepth 16384

noncomputable section

open Idealize.ShloMosaic Idealize.ShloMosaic.TcCoe Idealize.SL.Sem Idealize.ShloMosaic.Pointwise
open scoped BigOperators

namespace Cert.KernelIdeal.Block

open Cert.KernelIdeal Cert.KernelIdeal.Gen Cert.Spec

section
variable (x0 : Vec Ideal S1x2048x3 .f32) (x1 : Vec Ideal S1x3x512 .f32)

/-! ## The values of a block -/

/-- The offsets along the three axes. -/
def dx : FVec Ideal S2048x512 .f32 := k0_pay5 (F := Ideal) x0 x1
def dy : FVec Ideal S2048x512 .f32 := k0_pay6 (F := Ideal) x0 x1
def dz : FVec Ideal S2048x512 .f32 := k0_pay7 (F := Ideal) x0 x1
/-- The mask of the neighbours. -/
def mask : FVec Ideal S2048x512 .f32 := k0_pay11 (F := Ideal) x0 x1 (radius x0 x1)
/-- The weights. -/
def wts : FVec Ideal S2048x512 .f32 := k0_pay12 (F := Ideal) x0 x1 (radius x0 x1)
/-- The weighted offsets along the second and third axes, and the offsets again. -/
def wy : FVec Ideal S2048x512 .f32 := k0_pay14 (F := Ideal) (dy x0 x1) (wts x0 x1)
def wz : FVec Ideal S2048x512 .f32 := k0_pay15 (F := Ideal) (dz x0 x1) (wts x0 x1)
def ax : FVec Ideal S2048x512 .f32 := k0_pay16 (F := Ideal) (dx x0 x1)
def ay : FVec Ideal S2048x512 .f32 := k0_pay17 (F := Ideal) (dy x0 x1)
def az : FVec Ideal S2048x512 .f32 := k0_pay18 (F := Ideal) (dz x0 x1)
/-- The reciprocal of the sum of the weights. -/
def inv : FVec Ideal S1x512 .f32 := k0_pay19 (F := Ideal) (wts x0 x1)
/-- The covariance's entries, or what they are computed from. -/
def cxx : FVec Ideal S1x512 .f32 := k0_pay20 (F := Ideal) (dx x0 x1) (wts x0 x1)
def cyy : FVec Ideal S1x512 .f32 := k0_pay21 (F := Ideal) (dy x0 x1) (wts x0 x1)
def czz : FVec Ideal S1x512 .f32 := k0_pay22 (F := Ideal) (dz x0 x1) (wts x0 x1)
def cxy : FVec Ideal S1x512 .f32 := k0_pay23 (F := Ideal) (dx x0 x1) (dy x0 x1) (wts x0 x1)
def sxz : FVec Ideal S1x512 .f32 := k0_pay24 (F := Ideal) (dx x0 x1) (dz x0 x1) (wts x0 x1)
def hlf : FVec Ideal S1x512 .f32 := k0_pay25 (F := Ideal)

/-- A value of a block computed from the eleven values before the scaling. -/
def ofCov (f : FVec Ideal S2048x512 .f32 → FVec Ideal S2048x512 .f32 → FVec Ideal S2048x512 .f32 → FVec Ideal S2048x512 .f32 →
    FVec Ideal S1x512 .f32 → FVec Ideal S1x512 .f32 → FVec Ideal S1x512 .f32 → FVec Ideal S1x512 .f32 → FVec Ideal S1x512 .f32 →
    FVec Ideal S1x512 .f32 → FVec Ideal S1x512 .f32 → FVec Ideal S1x512 .f32) : FVec Ideal S1x512 .f32 :=
  f (wy x0 x1) (wz x0 x1) (ay x0 x1) (az x0 x1) (inv x0 x1) (cxx x0 x1) (cyy x0 x1) (czz x0 x1) (cxy x0 x1) (sxz x0 x1) hlf

/-- The scaled matrix's entries and the two products taken before the loop. -/
def nxx : FVec Ideal S1x512 .f32 := ofCov x0 x1 (k0_pay33 (F := Ideal))
def nyy : FVec Ideal S1x512 .f32 := ofCov x0 x1 (k0_pay34 (F := Ideal))
def nzz : FVec Ideal S1x512 .f32 := ofCov x0 x1 (k0_pay35 (F := Ideal))
def nxy : FVec Ideal S1x512 .f32 := ofCov x0 x1 (k0_pay36 (F := Ideal))
def nxz : FVec Ideal S1x512 .f32 := ofCov x0 x1 (k0_pay37 (F := Ideal))
def nyz : FVec Ideal S1x512 .f32 := ofCov x0 x1 (k0_pay38 (F := Ideal))
def pr0 : FVec Ideal S1x512 .f32 := ofCov x0 x1 (k0_pay39 (F := Ideal))
def pr1 : FVec Ideal S1x512 .f32 := ofCov x0 x1 (k0_pay40 (F := Ideal))

/-- The root. -/
def rt : FVec Ideal S1x512 .f32 := Scf.fold
  (fun (_ : Fin k0_t2_loop.trips) t => k0_pay42 (F := Ideal) (nyy x0 x1) (nxy x0 x1) (nxz x0 x1) (nyz x0 x1) (pr0 x0 x1) (pr1 x0 x1) t)
  (k0_pay41 (F := Ideal))

/-- The cofactors. -/
def r00 : FVec Ideal S1x512 .f32 := k0_pay46 (F := Ideal) (nyy x0 x1) (nzz x0 x1) (nyz x0 x1) (rt x0 x1)
def r01 : FVec Ideal S1x512 .f32 := k0_pay47 (F := Ideal) (nzz x0 x1) (nxy x0 x1) (nxz x0 x1) (nyz x0 x1) (rt x0 x1)
def r02 : FVec Ideal S1x512 .f32 := k0_pay48 (F := Ideal) (nyy x0 x1) (nxy x0 x1) (nxz x0 x1) (nyz x0 x1) (rt x0 x1)
def r10 : FVec Ideal S1x512 .f32 := k0_pay49 (F := Ideal) (nzz x0 x1) (nxy x0 x1) (nxz x0 x1) (nyz x0 x1) (rt x0 x1)
def r11 : FVec Ideal S1x512 .f32 := k0_pay50 (F := Ideal) (nxx x0 x1) (nzz x0 x1) (nxz x0 x1) (rt x0 x1)
def r12 : FVec Ideal S1x512 .f32 := k0_pay51 (F := Ideal) (nxx x0 x1) (nxy x0 x1) (nxz x0 x1) (nyz x0 x1) (rt x0 x1)
def r20 : FVec Ideal S1x512 .f32 := k0_pay52 (F := Ideal) (nyy x0 x1) (nxy x0 x1) (nxz x0 x1) (nyz x0 x1) (rt x0 x1)
def r21 : FVec Ideal S1x512 .f32 := k0_pay53 (F := Ideal) (nxx x0 x1) (nxy x0 x1) (nxz x0 x1) (nyz x0 x1) (rt x0 x1)
def r22 : FVec Ideal S1x512 .f32 := k0_pay54 (F := Ideal) (nxx x0 x1) (nyy x0 x1) (nxy x0 x1) (rt x0 x1)
/-- The rows' squared lengths, and the comparison of the first two. -/
def n0 : FVec Ideal S1x512 .f32 := k0_pay55 (F := Ideal) (nyy x0 x1) (nzz x0 x1) (nxy x0 x1) (nxz x0 x1) (nyz x0 x1) (rt x0 x1)
def n1 : FVec Ideal S1x512 .f32 := k0_pay56 (F := Ideal) (nxx x0 x1) (nzz x0 x1) (nxy x0 x1) (nxz x0 x1) (nyz x0 x1) (rt x0 x1)
def n2 : FVec Ideal S1x512 .f32 := k0_pay57 (F := Ideal) (nxx x0 x1) (nyy x0 x1) (nxy x0 x1) (nxz x0 x1) (nyz x0 x1) (rt x0 x1)
def ge01 : IVec S1x512 1 := k0_pay58 (F := Ideal) (nxx x0 x1) (nyy x0 x1) (nzz x0 x1) (nxy x0 x1) (nxz x0 x1) (nyz x0 x1) (rt x0 x1)

/-- The block of normals, with the squared radius as a fourth row. -/
def normals : FVec Ideal S1x4x512 .f32 := k0_pay1 (F := Ideal) (radius x0 x1)
  (k0_pay65 (F := Ideal) (r00 x0 x1) (r01 x0 x1) (r02 x0 x1) (r10 x0 x1) (r11 x0 x1) (r12 x0 x1) (r20 x0 x1) (r21 x0 x1) (r22 x0 x1)
    (n0 x0 x1) (n1 x0 x1) (n2 x0 x1) (ge01 x0 x1))
  (k0_pay66 (F := Ideal) (r00 x0 x1) (r01 x0 x1) (r02 x0 x1) (r10 x0 x1) (r11 x0 x1) (r12 x0 x1) (r20 x0 x1) (r21 x0 x1) (r22 x0 x1)
    (n0 x0 x1) (n1 x0 x1) (n2 x0 x1) (ge01 x0 x1))
  (k0_pay67 (F := Ideal) (r00 x0 x1) (r01 x0 x1) (r02 x0 x1) (r10 x0 x1) (r11 x0 x1) (r12 x0 x1) (r20 x0 x1) (r21 x0 x1) (r22 x0 x1)
    (n0 x0 x1) (n1 x0 x1) (n2 x0 x1) (ge01 x0 x1))
  (k0_pay68 (F := Ideal) (mask x0 x1) (ax x0 x1) (ay x0 x1) (az x0 x1) (r00 x0 x1) (r01 x0 x1) (r02 x0 x1) (r10 x0 x1) (r11 x0 x1)
    (r12 x0 x1) (r20 x0 x1) (r21 x0 x1) (r22 x0 x1) (n0 x0 x1) (n1 x0 x1) (n2 x0 x1) (ge01 x0 x1))

/-- The block of masks, as bytes. -/
def masks : IVec S1x2048x512 8 := k0_pay2 (F := Ideal) (mask x0 x1)

end

/-! ## The run leaves these blocks -/

theorem offsets_zero : (![0, 0, 0] : Fin 3 → Nat) = fun _ => 0 := funext fun a => by fin_cases a <;> rfl

section
variable (c : Dev nD) (i : grid0.Coords) (a2 : Memref sig .tc .vmem S1x2048x3 .f32) (h2 : a2.IsWhole) (a3 : Memref sig .tc .vmem S1x3x512 .f32)
  (h3 : a3.IsWhole) (a4 : Memref sig .tc .vmem S1x4x512 .f32) (h4 : a4.IsWhole) (a5 : Memref sig .tc .vmem S1x2048x512 .i8) (h5 : a5.IsWhole)
  (x0 : Vec Ideal S1x2048x3 .f32) (x1 : Vec Ideal S1x3x512 .f32)

theorem out_masks : out0_A_3 (F := Ideal) c i a2 h2 a3 h3 a4 h4 a5 h5 x0 x1 = masks x0 x1 := by
  unfold out0_A_3
  rw [View.read_writes_eq_canon _ _ _ (cover0_A_3 c i a2 h2 a3 h3 a4 h4 a5 h5 x0 x1)]
  unfold kernelRun0_A
  dsimp only
  sl_unfold_words
  rw [View.canon_unit_zero offsets_zero]
  simp only [View.readAt_eq_ld, h2.read_unread, h3.read_unread, View.ld_unit_zero (S := S1x2048x3) offsets_zero,
    View.ld_unit_zero (S := S1x3x512) offsets_zero]
  rfl

theorem out_normals : out0_A_2 (F := Ideal) c i a2 h2 a3 h3 a4 h4 a5 h5 x0 x1 = normals x0 x1 := by
  unfold out0_A_2
  rw [View.read_writes_eq_canon _ _ _ (cover0_A_2 c i a2 h2 a3 h3 a4 h4 a5 h5 x0 x1)]
  unfold kernelRun0_A
  dsimp only
  rw [View.canon_unit_zero offsets_zero]
  sl_unfold_words
  simp only [View.readAt_eq_ld, h2.read_unread, h3.read_unread, View.ld_unit_zero (S := S1x2048x3) offsets_zero,
    View.ld_unit_zero (S := S1x3x512) offsets_zero]
  rfl
end

/-! ## The blocks in a lane -/

section
variable {x0 : Vec Ideal S1x2048x3 .f32} {x1 : Vec Ideal S1x3x512 .f32} {l : Fin 512} {v : Cloud 2048} {i : Fin 2048}
  {nb : Fin 17 → Fin 2048}

/-- A real zero or one as a byte. -/
theorem byte_eq (p : Prop) [Decidable p] :
    FloatOps.fptosi (F := Ideal) (φ := .f32) 8 ((if p then 1 else 0 : ℝ) : EReal) = if p then 1#8 else 0#8 := by
  show Ideal.fptosi 8 _ = _
  split <;> (rw [Ideal.fptosi, Ideal.toIntClamped_coe]; norm_num)

/-- The mask of the neighbours of the lane's point. -/
theorem Lane.mask_byte (h : Lane x0 x1 l v i) (hn : Nearest (Spec.dist2 v i) nb) (m : Fin 2048) :
    Block.masks x0 x1 (ix3 0 m l) = if m ∈ near (Spec.dist2 v i) (Spec.dist2 v i (nb 15)) then 1#8 else 0#8 := by
  unfold Block.masks
  pointwise [k0_pay2]
  unfold Block.mask
  rw [h.mask (h.radius hn), byte_eq]

/-- The values a lane's eigenvector is chosen from: the cofactors of the scaled covariance less its smallest eigenvalue. -/
theorem Lane.rows (h : Lane x0 x1 l v i) (hn : Nearest (Spec.dist2 v i) nb) :
    Rows l (Spec.rows (cov v (near (Spec.dist2 v i) (Spec.dist2 v i (nb 15))) (Spec.dist2 v i (nb 15)) i))
      (r00 x0 x1) (r01 x0 x1) (r02 x0 x1) (r10 x0 x1) (r11 x0 x1) (r12 x0 x1) (r20 x0 x1) (r21 x0 x1) (r22 x0 x1)
      (n0 x0 x1) (n1 x0 x1) (n2 x0 x1) (ge01 x0 x1) := by
  have hr := h.radius hn
  have hr0 := dist2_nonneg v i (nb 15)
  have hw : ∀ m, wts x0 x1 (ix2 m l) = (allWeight v i (Spec.dist2 v i (nb 15)) m : EReal) := fun m => h.weights hr hr0 m
  generalize hc : cov v (near (Spec.dist2 v i) (Spec.dist2 v i (nb 15))) (Spec.dist2 v i (nb 15)) i = c
  have hs : ∀ a b, c a b = c b a := fun a b => by rw [← hc]; exact cov_symm _ _ _ _ a b
  have E : Entries l c (cxx x0 x1) (cyy x0 x1) (czz x0 x1) (cxy x0 x1) (k0_pay26 (inv x0 x1) (sxz x0 x1) hlf)
      (k0_pay27 (wy x0 x1) (wz x0 x1) (ay x0 x1) (az x0 x1) (inv x0 x1)) := by
    subst hc
    exact ⟨hs, cov00 hr0 hw h.offset0, cov11 hr0 hw h.offset1, cov22 hr0 hw h.offset2, cov01 hr0 hw h.offset0 h.offset1,
      cov02 hr0 hw h.offset0 h.offset2, cov12 hr0 hw h.offset1 h.offset2⟩
  have N : Entries l (scaled c) (nxx x0 x1) (nyy x0 x1) (nzz x0 x1) (nxy x0 x1) (nxz x0 x1) (nyz x0 x1) := scaled_entries E
  have T : rt x0 x1 (ix2 0 l) = (root (det (scaled c)) : EReal) := root_eq N hs (products E).1 (products E).2
  obtain ⟨⟨a0, a1, a2⟩, ⟨b0, b1, b2⟩, c0, c1, c2⟩ := rows_eq N T
  obtain ⟨l0, l1, l2⟩ := len_eq N T
  refine ⟨a0, a1, a2, b0, b1, b2, c0, c1, c2, l0, l1, l2, ?_⟩
  unfold ge01
  pointwise [k0_pay58]
  rw [l0, l1]
  simp only [EReal.coe_le_coe_iff]

/-- The normal of the lane's point. -/
theorem Lane.normals (h : Lane x0 x1 l v i) (hn : Nearest (Spec.dist2 v i) nb) :
    Block.normals x0 x1 (ix3 0 0 l)
        = (normal v (near (Spec.dist2 v i) (Spec.dist2 v i (nb 15))) (Spec.dist2 v i (nb 15)) i 0 : EReal)
    ∧ Block.normals x0 x1 (ix3 0 1 l)
        = (normal v (near (Spec.dist2 v i) (Spec.dist2 v i (nb 15))) (Spec.dist2 v i (nb 15)) i 1 : EReal)
    ∧ Block.normals x0 x1 (ix3 0 2 l)
        = (normal v (near (Spec.dist2 v i) (Spec.dist2 v i (nb 15))) (Spec.dist2 v i (nb 15)) i 2 : EReal) := by
  have R := h.rows hn
  obtain ⟨u0, u1, u2⟩ := unit_eq R
  have S := sign_eq R (n := 2048) (v := v) (i := i) (v30 := Block.mask x0 x1) (d0 := ax x0 x1) (d1 := ay x0 x1) (d2 := az x0 x1)
    (fun m => h.mask (h.radius hn) m)
    (fun m => by unfold ax dx; pointwise [k0_pay16]; exact h.offset0 m)
    (fun m => by unfold ay dy; pointwise [k0_pay17]; exact h.offset1 m)
    (fun m => by unfold az dz; pointwise [k0_pay18]; exact h.offset2 m)
  unfold Block.normals
  refine ⟨?_, ?_, ?_⟩
  · pointwise [k0_pay1]
    rw [u0, S, ← EReal.coe_zero, ← EReal.coe_sub, ← EReal.coe_mul, zero_sub]; rfl
  · pointwise [k0_pay1]
    rw [u1, S, ← EReal.coe_zero, ← EReal.coe_sub, ← EReal.coe_mul, zero_sub]; rfl
  · pointwise [k0_pay1]
    rw [u2, S, ← EReal.coe_zero, ← EReal.coe_sub, ← EReal.coe_mul, zero_sub]; rfl
end

end Cert.KernelIdeal.Block
-- ==== Proof.BlockB.lean ====
module
public import proofs.«01_k».proof.Proof.Gen.KernelIdeal.Frame
public import proofs.«01_k».proof.Proof.Coe
public import Idealize.ShloMosaic.Lib.Pipeline.Value
public import Idealize.ShloMosaic.Lib.Tactic
public import Idealize.ShloMosaic.Lib.Pointwise

/-! # What one block of the second kernel computes

  A lane belongs to one point. From the mask of its neighbours and every point's normal, the block holds the covariance of
  the neighbours' normals, each entry times the reciprocal of the matrix's norm. -/

@[expose] public section

set_option maxRecDepth 16384

noncomputable section

open Idealize.ShloMosaic Idealize.ShloMosaic.TcCoe Idealize.SL.Sem Idealize.ShloMosaic.Pointwise
open scoped BigOperators

namespace Cert.KernelIdeal.BlockB

open Cert.KernelIdeal Cert.KernelIdeal.Gen Cert.Spec

/-- A block's operands hold, in lane `l`, the mask of a set, and the normals of all points. -/
structure Lane (x0 : Vec Ideal S1x2048x512 .i8) (x1 : Vec Ideal S1x2048x4 .f32) (l : Fin 512) (ν : Fin 2048 → Fin 3 → ℝ)
    (s : Finset (Fin 2048)) : Prop where
  mask : ∀ m, x0 (ix3 0 m l) = if m ∈ s then 1#8 else 0#8
  n0 : ∀ m, x1 (ix3 0 m 0) = (ν m 0 : EReal)
  n1 : ∀ m, x1 (ix3 0 m 1) = (ν m 1 : EReal)
  n2 : ∀ m, x1 (ix3 0 m 2) = (ν m 2 : EReal)

variable {x0 : Vec Ideal S1x2048x512 .i8} {x1 : Vec Ideal S1x2048x4 .f32} {l : Fin 512} {ν : Fin 2048 → Fin 3 → ℝ} {s : Finset (Fin 2048)}

/-- A byte zero or one as a real. -/
theorem real_eq (p : Prop) [Decidable p] :
    FloatOps.sitofp (F := Ideal) .f32 (if p then 1#8 else 0#8) = ((if p then 1 else 0 : ℝ) : EReal) := by
  show (((if p then 1#8 else 0#8 : BitVec 8).toInt : ℝ) : EReal) = _
  split <;> simp

theorem Lane.bit (h : Lane x0 x1 l ν s) (m : Fin 2048) : k1_pay3 (F := Ideal) x0 (ix2 m l) = ((if m ∈ s then 1 else 0 : ℝ) : EReal) := by
  pointwise [k1_pay3]
  rw [h.mask, real_eq]

/-- A sum over all points of the mask times a value is the sum over the set. -/
theorem sum_bit (s : Finset (Fin 2048)) (f : Fin 2048 → ℝ) :
    ∑ m, ((if m ∈ s then 1 else 0 : ℝ) : EReal) * (f m : EReal) = ((∑ m ∈ s, f m : ℝ) : EReal) := by
  simp only [← EReal.coe_mul, coe_sum, ite_mul, one_mul, zero_mul, Finset.sum_ite_mem, Finset.univ_inter]

/-- The normals less their mean over the set, axis by axis. -/
theorem Lane.centred (h : Lane x0 x1 l ν s) (m : Fin 2048) :
    k1_pay4 (F := Ideal) x1 x0 (ix2 m l) = ((ν m 0 - mean ν s 0 : ℝ) : EReal)
    ∧ k1_pay5 (F := Ideal) x1 x0 (ix2 m l) = ((ν m 1 - mean ν s 1 : ℝ) : EReal)
    ∧ k1_pay6 (F := Ideal) x1 x0 (ix2 m l) = ((ν m 2 - mean ν s 2 : ℝ) : EReal) := by
  refine ⟨?_, ?_, ?_⟩
  · pointwise [k1_pay4, k1_pay2]
    simp only [h.bit, h.n0, sum_bit, show Ideal.ofBits FTy.f32 1031798784#32 = ((1 / 16 : ℝ) : EReal) from ofBits_sixteenth]
    rw [← EReal.coe_mul, ← EReal.coe_sub, mul_one_div]; rfl
  · pointwise [k1_pay5, k1_pay2]
    simp only [h.bit, h.n1, sum_bit, show Ideal.ofBits FTy.f32 1031798784#32 = ((1 / 16 : ℝ) : EReal) from ofBits_sixteenth]
    rw [← EReal.coe_mul, ← EReal.coe_sub, mul_one_div]; rfl
  · pointwise [k1_pay6, k1_pay2]
    simp only [h.bit, h.n2, sum_bit, show Ideal.ofBits FTy.f32 1031798784#32 = ((1 / 16 : ℝ) : EReal) from ofBits_sixteenth]
    rw [← EReal.coe_mul, ← EReal.coe_sub, mul_one_div]; rfl

/-- The six different entries of the covariance. -/
theorem Lane.entries (h : Lane x0 x1 l ν s) :
    k1_pay8 (F := Ideal) (k1_pay7 (F := Ideal) x1 x0) (ix2 0 l) = (ncov ν s 0 0 : EReal)
    ∧ k1_pay9 (F := Ideal) (k1_pay3 (F := Ideal) x0) (k1_pay5 (F := Ideal) x1 x0) (ix2 0 l) = (ncov ν s 1 1 : EReal)
    ∧ k1_pay10 (F := Ideal) (k1_pay3 (F := Ideal) x0) (k1_pay6 (F := Ideal) x1 x0) (ix2 0 l) = (ncov ν s 2 2 : EReal)
    ∧ k1_pay11 (F := Ideal) (k1_pay3 (F := Ideal) x0) (k1_pay4 (F := Ideal) x1 x0) (k1_pay5 (F := Ideal) x1 x0) (ix2 0 l) = (ncov ν s 0 1 : EReal)
    ∧ k1_pay12 (F := Ideal) (k1_pay3 (F := Ideal) x0) (k1_pay4 (F := Ideal) x1 x0) (k1_pay6 (F := Ideal) x1 x0) (ix2 0 l) = (ncov ν s 0 2 : EReal)
    ∧ k1_pay13 (F := Ideal) (k1_pay3 (F := Ideal) x0) (k1_pay5 (F := Ideal) x1 x0) (k1_pay6 (F := Ideal) x1 x0) (ix2 0 l) = (ncov ν s 1 2 : EReal) := by
  have c0 := fun m => (h.centred m).1
  have c1 := fun m => (h.centred m).2.1
  have c2 := fun m => (h.centred m).2.2
  refine ⟨?_, ?_, ?_, ?_, ?_, ?_⟩
  all_goals
    pointwise [k1_pay7, k1_pay8, k1_pay9, k1_pay10, k1_pay11, k1_pay12, k1_pay13]
    simp only [h.bit, c0, c1, c2, ← EReal.coe_mul]
    simp only [EReal.coe_mul (ite _ _ _), sum_bit, show Ideal.ofBits FTy.f32 1031798784#32 = ((1 / 16 : ℝ) : EReal) from ofBits_sixteenth]
    rw [← EReal.coe_mul, mul_one_div]; rfl

theorem ncov_symm (a b : Fin 3) : ncov ν s a b = ncov ν s b a := by
  unfold ncov; congr 1; exact Finset.sum_congr rfl fun m _ => mul_comm _ _

/-- The reciprocal of the norm, in every row. -/
theorem Lane.norm (h : Lane x0 x1 l ν s) (j : Fin 9) :
    k1_pay15 (F := Ideal) (k1_pay3 (F := Ideal) x0) (k1_pay4 (F := Ideal) x1 x0) (k1_pay5 (F := Ideal) x1 x0) (k1_pay6 (F := Ideal) x1 x0)
      (k1_pay7 (F := Ideal) x1 x0) (ix2 j l) = Ideal.rsqrt (norm2 (ncov ν s) : EReal) := by
  obtain ⟨e00, e11, e22, e01, e02, e12⟩ := h.entries
  pointwise [k1_pay15]
  rw [e00, e11, e22, e01, e02, e12, show Ideal.ofBits FTy.f32 1073741824#32 = ((2 : ℝ) : EReal) from ofBits_two]
  simp only [← EReal.coe_mul, ← EReal.coe_add]
  congr 2
  simp only [norm2, Fin.sum_univ_three, ncov_symm 1 0, ncov_symm 2 0, ncov_symm 2 1]
  ring

/-- The row of a matrix entry in the flattened matrix. -/
abbrev flat (a b : Fin 3) : Fin 9 := ⟨3 * a.val + b.val, by omega⟩

/-- The block: the covariance over its norm. -/
theorem Lane.out (h : Lane x0 x1 l ν s) (a b : Fin 3) :
    out1_2 (F := Ideal) x0 x1 (ix3 0 (flat a b) l) = (ncov ν s a b : EReal) * Ideal.rsqrt (norm2 (ncov ν s) : EReal) := by
  obtain ⟨e00, e11, e22, e01, e02, e12⟩ := h.entries
  have hz : (![0, 0, 0] : Fin 3 → Nat) = fun _ => 0 := funext fun a => by fin_cases a <;> rfl
  unfold_out out1_2
  rw [View.canon_unit_zero hz]
  simp only [View.ld_unit_zero (S := S1x2048x512) hz, View.ld_unit_zero (S := S1x2048x4) hz]
  fin_cases a <;> fin_cases b
  · show k1_pay1 (F := Ideal) _ _ (ix3 0 (0 : Fin 9) l) = (ncov ν s 0 0 : EReal) * _
    pointwise [k1_pay1, k1_pay14]
    rw [h.norm, e00]
  · show k1_pay1 (F := Ideal) _ _ (ix3 0 (1 : Fin 9) l) = (ncov ν s 0 1 : EReal) * _
    pointwise [k1_pay1, k1_pay14]
    rw [h.norm, e01]
  · show k1_pay1 (F := Ideal) _ _ (ix3 0 (2 : Fin 9) l) = (ncov ν s 0 2 : EReal) * _
    pointwise [k1_pay1, k1_pay14]
    rw [h.norm, e02]
  · show k1_pay1 (F := Ideal) _ _ (ix3 0 (3 : Fin 9) l) = (ncov ν s 1 0 : EReal) * _
    pointwise [k1_pay1, k1_pay14]
    rw [h.norm, e01, ncov_symm]
  · show k1_pay1 (F := Ideal) _ _ (ix3 0 (4 : Fin 9) l) = (ncov ν s 1 1 : EReal) * _
    pointwise [k1_pay1, k1_pay14]
    rw [h.norm, e11]
  · show k1_pay1 (F := Ideal) _ _ (ix3 0 (5 : Fin 9) l) = (ncov ν s 1 2 : EReal) * _
    pointwise [k1_pay1, k1_pay14]
    rw [h.norm, e12]
  · show k1_pay1 (F := Ideal) _ _ (ix3 0 (6 : Fin 9) l) = (ncov ν s 2 0 : EReal) * _
    pointwise [k1_pay1, k1_pay14]
    rw [h.norm, e02, ncov_symm]
  · show k1_pay1 (F := Ideal) _ _ (ix3 0 (7 : Fin 9) l) = (ncov ν s 2 1 : EReal) * _
    pointwise [k1_pay1, k1_pay14]
    rw [h.norm, e12, ncov_symm]
  · show k1_pay1 (F := Ideal) _ _ (ix3 0 (8 : Fin 9) l) = (ncov ν s 2 2 : EReal) * _
    pointwise [k1_pay1, k1_pay14]
    rw [h.norm, e22]

end Cert.KernelIdeal.BlockB
-- ==== Proof.Arrays.lean ====
module
public import proofs.«01_k».proof.Proof.BlockA
public import proofs.«01_k».proof.Proof.BlockB

/-! # From blocks to arrays

  The grids have a point for each cloud of the batch and each quarter of its points. Here: which part of an array a block
  is, and what each kernel's result arrays hold, entry by entry, in terms of the blocks. -/

@[expose] public section

set_option maxRecDepth 16384

noncomputable section

open Idealize.ShloMosaic Idealize.ShloMosaic.TcCoe Idealize.SL.Sem Idealize.ShloMosaic.Pointwise
open Idealize.ShloMosaic.Pipeline (Dat)

namespace Cert.KernelIdeal.Arrays

open Cert.KernelIdeal Cert.KernelIdeal.Gen

variable (V : (c : Dev nD) → (b : Ref sig .tc) → Buf (Elt Ideal) ((c : Thread nD τ).loc b)) (c : Dev nD)

/-! ## Grid points and lanes -/

/-- The grid point that computes point `i` of cloud `b`. -/
def pt0 (b : Fin 8) (i : Fin 2048) : Fin cfg0.N := ⟨4 * b.val + i.val / 512, by rw [show cfg0.N = 32 from N_0]; omega⟩
def pt1 (b : Fin 8) (i : Fin 2048) : Fin cfg1.N := ⟨4 * b.val + i.val / 512, by rw [show cfg1.N = 32 from N_1]; omega⟩
/-- Its lane. -/
def lane (i : Fin 2048) : Fin 512 := ⟨i.val % 512, Nat.mod_lt _ (by norm_num)⟩

theorem index0 : ∀ t : Fin cfg0.N,
    (win0_0.index t 0 = t.val / 4 ∧ win0_0.index t 1 = 0 ∧ win0_0.index t 2 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = t.val % 4)
    ∧ (win0_3.index t 0 = t.val / 4 ∧ win0_3.index t 1 = 0 ∧ win0_3.index t 2 = t.val % 4) := by
  decide +kernel

theorem index1 : ∀ t : Fin cfg1.N,
    (win1_0.index t 0 = t.val / 4 ∧ win1_0.index t 1 = 0 ∧ win1_0.index t 2 = t.val % 4)
    ∧ (win1_1.index t 0 = t.val / 4 ∧ win1_1.index t 1 = 0 ∧ win1_1.index t 2 = 0)
    ∧ (win1_2.index t 0 = t.val / 4 ∧ win1_2.index t 1 = 0 ∧ win1_2.index t 2 = t.val % 4) := by
  decide +kernel

/-! ## The input blocks -/

theorem block0_0 (b : Fin 8) (i : Fin 2048) (k : Fin 2048) (a : Fin 3) :
    (iblk0 V c 0 (pt0 b i) : Vec Ideal S1x2048x3 .f32) (ix3 0 k a) = (V c main_arg0 : Vec Ideal S8x2048x3 .f32) (ix3 b k a) := by
  obtain ⟨⟨h0, h1, h2⟩, -⟩ := index0 (pt0 b i)
  unfold iblk0
  rw [View.read_apply]
  show V c main_arg0 _ = V c main_arg0 _
  congr 1
  funext x
  apply Fin.ext
  match x with
  | ⟨0, _⟩ => show win0_0.index (pt0 b i) 0 * 1 + 1 * 0 = b.val; rw [h0]; simp only [pt0]; omega
  | ⟨1, _⟩ => show win0_0.index (pt0 b i) 1 * 2048 + 1 * k.val = k.val; rw [h1]; omega
  | ⟨2, _⟩ => show win0_0.index (pt0 b i) 2 * 3 + 1 * a.val = a.val; rw [h2]; omega

theorem block0_1 (b : Fin 8) (i : Fin 2048) (a : Fin 3) :
    (iblk0 V c 1 (pt0 b i) : Vec Ideal S1x3x512 .f32) (ix3 0 a (lane i)) = (V c main_v0 : Vec Ideal S8x3x2048 .f32) (ix3 b a i) := by
  obtain ⟨-, ⟨h0, h1, h2⟩, -⟩ := index0 (pt0 b i)
  unfold iblk0
  rw [View.read_apply]
  show V c main_v0 _ = V c main_v0 _
  congr 1
  funext x
  apply Fin.ext
  match x with
  | ⟨0, _⟩ => show win0_1.index (pt0 b i) 0 * 1 + 1 * 0 = b.val; rw [h0]; simp only [pt0]; omega
  | ⟨1, _⟩ => show win0_1.index (pt0 b i) 1 * 3 + 1 * a.val = a.val; rw [h1]; omega
  | ⟨2, _⟩ => show win0_1.index (pt0 b i) 2 * 512 + 1 * (i.val % 512) = i.val; rw [h2]; simp only [pt0]; omega

theorem block1_0 (b : Fin 8) (i : Fin 2048) (k : Fin 2048) :
    (iblk1 V c 0 (pt1 b i) : Vec Ideal S1x2048x512 .i8) (ix3 0 k (lane i)) = (V c main_v1_1 : Vec Ideal S8x2048x2048 .i8) (ix3 b k i) := by
  obtain ⟨⟨h0, h1, h2⟩, -⟩ := index1 (pt1 b i)
  unfold iblk1
  rw [View.read_apply]
  show V c main_v1_1 _ = V c main_v1_1 _
  congr 1
  funext x
  apply Fin.ext
  match x with
  | ⟨0, _⟩ => show win1_0.index (pt1 b i) 0 * 1 + 1 * 0 = b.val; rw [h0]; simp only [pt1]; omega
  | ⟨1, _⟩ => show win1_0.index (pt1 b i) 1 * 2048 + 1 * k.val = k.val; rw [h1]; omega
  | ⟨2, _⟩ => show win1_0.index (pt1 b i) 2 * 512 + 1 * (i.val % 512) = i.val; rw [h2]; simp only [pt1]; omega

theorem block1_1 (b : Fin 8) (i : Fin 2048) (k : Fin 2048) (a : Fin 4) :
    (iblk1 V c 1 (pt1 b i) : Vec Ideal S1x2048x4 .f32) (ix3 0 k a) = (V c main_v2 : Vec Ideal S8x2048x4 .f32) (ix3 b k a) := by
  obtain ⟨-, ⟨h0, h1, h2⟩, -⟩ := index1 (pt1 b i)
  unfold iblk1
  rw [View.read_apply]
  show V c main_v2 _ = V c main_v2 _
  congr 1
  funext x
  apply Fin.ext
  match x with
  | ⟨0, _⟩ => show win1_1.index (pt1 b i) 0 * 1 + 1 * 0 = b.val; rw [h0]; simp only [pt1]; omega
  | ⟨1, _⟩ => show win1_1.index (pt1 b i) 1 * 2048 + 1 * k.val = k.val; rw [h1]; omega
  | ⟨2, _⟩ => show win1_1.index (pt1 b i) 2 * 4 + 1 * a.val = a.val; rw [h2]; omega

/-! ## The output arrays -/

/-- The array of normals, assembled from the blocks. -/
def normalsArr : Vec Ideal S8x4x2048 .f32 := fun j =>
  Block.normals (iblk0 V c 0 (pt0 (j 0) (j 2))) (iblk0 V c 1 (pt0 (j 0) (j 2))) (ix3 0 (j 1) (lane (j 2)))

theorem normalsArr_at (t : Fin cfg0.N) (j : S8x4x2048.Idx) (x : Fin 4) (l : Fin 512) (e0 : (j 0).val = t.val / 4)
    (e1 : (j 1).val = x.val) (e2 : (j 2).val = 512 * (t.val % 4) + l.val) :
    normalsArr V c j = Block.normals (iblk0 V c 0 t) (iblk0 V c 1 t) (ix3 0 x l) := by
  have ht : pt0 (j 0) (j 2) = t := Fin.ext (by show 4 * (j 0).val + (j 2).val / 512 = t.val; omega)
  have hl : lane (j 2) = l := Fin.ext (by show (j 2).val % 512 = l.val; omega)
  have hx : j 1 = x := Fin.ext e1
  unfold normalsArr
  rw [ht, hl, hx]

theorem normals_array : (dat0 V c).arrAt 2 cfg0.N = normalsArr V c :=
  (dat0 V c).arrAt_eq_of_cover 2 (normalsArr V c)
    (fun t _ => by
      obtain ⟨-, -, ⟨h0, h1, h2⟩, -⟩ := index0 t
      show (cfg0.win 2).cut (grid0.coords t) ((dat0 V c).after 2 t) = _
      rw [after0_2]
      unfold outsAt0
      dsimp only
      rw [Block.out_normals]
      funext j
      have j0 : (j 0).val = 0 := by have : (j 0).val < 1 := (j 0).isLt; omega
      have j1 : (j 1).val < 4 := (j 1).isLt
      have j2 : (j 2).val < 512 := (j 2).isLt
      have hj : j = ix3 (0 : Fin 1) (⟨(j 1).val, j1⟩ : Fin 4) (⟨(j 2).val, j2⟩ : Fin 512) := by
        funext a
        match a with
        | ⟨0, _⟩ => exact Fin.ext j0
        | ⟨1, _⟩ => rfl
        | ⟨2, _⟩ => rfl
      rw [View.read_apply]
      refine Eq.trans (congrArg (Block.normals (iblk0 V c 0 t) (iblk0 V c 1 t)) hj)
        (normalsArr_at V c t _ ⟨(j 1).val, j1⟩ ⟨(j 2).val, j2⟩ ?_ ?_ ?_).symm
      · show win0_2.index t 0 * 1 + 1 * (j 0).val = _; rw [h0]; omega
      · show win0_2.index t 1 * 4 + 1 * (j 1).val = _; rw [h1]; simp only []; omega
      · show win0_2.index t 2 * 512 + 1 * (j 2).val = _; rw [h2]; simp only []; omega)
    fun j => ⟨pt0 (j 0) (j 2), flush0_2 _, by
      obtain ⟨-, -, ⟨h0, h1, h2⟩, -⟩ := index0 (pt0 (j 0) (j 2))
      show j ∈ ((View.whole main_v1_0).slice (win0_2.rect (pt0 (j 0) (j 2)))).set
      rw [View.set_slice_whole, Rect.mem_set_unit]
      have e0 : (j 0 : Nat) < 8 := (j 0).isLt
      have e1 : (j 1 : Nat) < 4 := (j 1).isLt
      have e2 : (j 2 : Nat) < 2048 := (j 2).isLt
      intro a
      match a with
      | ⟨0, _⟩ =>
        show win0_2.index (pt0 (j 0) (j 2)) 0 * 1 ≤ (j 0 : Nat) ∧ (j 0 : Nat) < win0_2.index (pt0 (j 0) (j 2)) 0 * 1 + 1
        rw [h0]; simp only [pt0]; omega
      | ⟨1, _⟩ =>
        show win0_2.index (pt0 (j 0) (j 2)) 1 * 4 ≤ (j 1 : Nat) ∧ (j 1 : Nat) < win0_2.index (pt0 (j 0) (j 2)) 1 * 4 + 4
        rw [h1]; omega
      | ⟨2, _⟩ =>
        show win0_2.index (pt0 (j 0) (j 2)) 2 * 512 ≤ (j 2 : Nat) ∧ (j 2 : Nat) < win0_2.index (pt0 (j 0) (j 2)) 2 * 512 + 512
        rw [h2]; simp only [pt0]; omega⟩

/-- The array of neighbour masks, assembled from the blocks. -/
def masksArr : Vec Ideal S8x2048x2048 .i8 := fun j =>
  Block.masks (iblk0 V c 0 (pt0 (j 0) (j 2))) (iblk0 V c 1 (pt0 (j 0) (j 2))) (ix3 0 (j 1) (lane (j 2)))

theorem masksArr_at (t : Fin cfg0.N) (j : S8x2048x2048.Idx) (x : Fin 2048) (l : Fin 512) (e0 : (j 0).val = t.val / 4)
    (e1 : (j 1).val = x.val) (e2 : (j 2).val = 512 * (t.val % 4) + l.val) :
    masksArr V c j = Block.masks (iblk0 V c 0 t) (iblk0 V c 1 t) (ix3 0 x l) := by
  have ht : pt0 (j 0) (j 2) = t := Fin.ext (by show 4 * (j 0).val + (j 2).val / 512 = t.val; omega)
  have hl : lane (j 2) = l := Fin.ext (by show (j 2).val % 512 = l.val; omega)
  have hx : j 1 = x := Fin.ext e1
  unfold masksArr
  rw [ht, hl, hx]

theorem masks_array : (dat0 V c).arrAt 3 cfg0.N = masksArr V c :=
  (dat0 V c).arrAt_eq_of_cover 3 (masksArr V c)
    (fun t _ => by
      obtain ⟨-, -, -, ⟨h0, h1, h2⟩⟩ := index0 t
      show (cfg0.win 3).cut (grid0.coords t) ((dat0 V c).after 3 t) = _
      rw [after0_3]
      unfold outsAt0
      dsimp only
      rw [Block.out_masks]
      funext j
      have j0 : (j 0).val = 0 := by have : (j 0).val < 1 := (j 0).isLt; omega
      have j1 : (j 1).val < 2048 := (j 1).isLt
      have j2 : (j 2).val < 512 := (j 2).isLt
      have hj : j = ix3 (0 : Fin 1) (⟨(j 1).val, j1⟩ : Fin 2048) (⟨(j 2).val, j2⟩ : Fin 512) := by
        funext a
        match a with
        | ⟨0, _⟩ => exact Fin.ext j0
        | ⟨1, _⟩ => rfl
        | ⟨2, _⟩ => rfl
      rw [View.read_apply]
      refine Eq.trans (congrArg (Block.masks (iblk0 V c 0 t) (iblk0 V c 1 t)) hj)
        (masksArr_at V c t _ ⟨(j 1).val, j1⟩ ⟨(j 2).val, j2⟩ ?_ ?_ ?_).symm
      · show win0_3.index t 0 * 1 + 1 * (j 0).val = _; rw [h0]; omega
      · show win0_3.index t 1 * 2048 + 1 * (j 1).val = _; rw [h1]; simp only []; omega
      · show win0_3.index t 2 * 512 + 1 * (j 2).val = _; rw [h2]; simp only []; omega)
    fun j => ⟨pt0 (j 0) (j 2), flush0_3 _, by
      obtain ⟨-, -, -, ⟨h0, h1, h2⟩⟩ := index0 (pt0 (j 0) (j 2))
      show j ∈ ((View.whole main_v1_1).slice (win0_3.rect (pt0 (j 0) (j 2)))).set
      rw [View.set_slice_whole, Rect.mem_set_unit]
      have e0 : (j 0 : Nat) < 8 := (j 0).isLt
      have e1 : (j 1 : Nat) < 2048 := (j 1).isLt
      have e2 : (j 2 : Nat) < 2048 := (j 2).isLt
      intro a
      match a with
      | ⟨0, _⟩ =>
        show win0_3.index (pt0 (j 0) (j 2)) 0 * 1 ≤ (j 0 : Nat) ∧ (j 0 : Nat) < win0_3.index (pt0 (j 0) (j 2)) 0 * 1 + 1
        rw [h0]; simp only [pt0]; omega
      | ⟨1, _⟩ =>
        show win0_3.index (pt0 (j 0) (j 2)) 1 * 2048 ≤ (j 1 : Nat) ∧ (j 1 : Nat) < win0_3.index (pt0 (j 0) (j 2)) 1 * 2048 + 2048
        rw [h1]; omega
      | ⟨2, _⟩ =>
        show win0_3.index (pt0 (j 0) (j 2)) 2 * 512 ≤ (j 2 : Nat) ∧ (j 2 : Nat) < win0_3.index (pt0 (j 0) (j 2)) 2 * 512 + 512
        rw [h2]; simp only [pt0]; omega⟩

attribute [local irreducible] out1_2

/-- The array of normalised covariances, assembled from the blocks. -/
def covsArr : Vec Ideal S8x9x2048 .f32 := fun j =>
  out1_2 (iblk1 V c 0 (pt1 (j 0) (j 2))) (iblk1 V c 1 (pt1 (j 0) (j 2))) (ix3 0 (j 1) (lane (j 2)))

theorem covsArr_at (t : Fin cfg1.N) (j : S8x9x2048.Idx) (x : Fin 9) (l : Fin 512) (e0 : (j 0).val = t.val / 4)
    (e1 : (j 1).val = x.val) (e2 : (j 2).val = 512 * (t.val % 4) + l.val) :
    covsArr V c j = out1_2 (iblk1 V c 0 t) (iblk1 V c 1 t) (ix3 0 x l) := by
  have ht : pt1 (j 0) (j 2) = t := Fin.ext (by show 4 * (j 0).val + (j 2).val / 512 = t.val; omega)
  have hl : lane (j 2) = l := Fin.ext (by show (j 2).val % 512 = l.val; omega)
  have hx : j 1 = x := Fin.ext e1
  unfold covsArr
  rw [ht, hl, hx]

theorem covs_array : (dat1 V c).arrAt 2 cfg1.N = covsArr V c :=
  (dat1 V c).arrAt_eq_of_cover 2 (covsArr V c)
    (fun t _ => by
      obtain ⟨-, -, ⟨h0, h1, h2⟩⟩ := index1 t
      show (cfg1.win 2).cut (grid1.coords t) ((dat1 V c).after 2 t) = _
      rw [after1_2]
      funext j
      have j0 : (j 0).val = 0 := by have : (j 0).val < 1 := (j 0).isLt; omega
      have j1 : (j 1).val < 9 := (j 1).isLt
      have j2 : (j 2).val < 512 := (j 2).isLt
      have hj : j = ix3 (0 : Fin 1) (⟨(j 1).val, j1⟩ : Fin 9) (⟨(j 2).val, j2⟩ : Fin 512) := by
        funext a
        match a with
        | ⟨0, _⟩ => exact Fin.ext j0
        | ⟨1, _⟩ => rfl
        | ⟨2, _⟩ => rfl
      rw [View.read_apply]
      refine Eq.trans (congrArg (out1_2 (iblk1 V c 0 t) (iblk1 V c 1 t)) hj)
        (covsArr_at V c t _ ⟨(j 1).val, j1⟩ ⟨(j 2).val, j2⟩ ?_ ?_ ?_).symm
      · show win1_2.index t 0 * 1 + 1 * (j 0).val = _; rw [h0]; omega
      · show win1_2.index t 1 * 9 + 1 * (j 1).val = _; rw [h1]; simp only []; omega
      · show win1_2.index t 2 * 512 + 1 * (j 2).val = _; rw [h2]; simp only []; omega)
    fun j => ⟨pt1 (j 0) (j 2), flush1_2 _, by
      obtain ⟨-, -, ⟨h0, h1, h2⟩⟩ := index1 (pt1 (j 0) (j 2))
      show j ∈ ((View.whole main_v3).slice (win1_2.rect (pt1 (j 0) (j 2)))).set
      rw [View.set_slice_whole, Rect.mem_set_unit]
      have e0 : (j 0 : Nat) < 8 := (j 0).isLt
      have e1 : (j 1 : Nat) < 9 := (j 1).isLt
      have e2 : (j 2 : Nat) < 2048 := (j 2).isLt
      intro a
      match a with
      | ⟨0, _⟩ =>
        show win1_2.index (pt1 (j 0) (j 2)) 0 * 1 ≤ (j 0 : Nat) ∧ (j 0 : Nat) < win1_2.index (pt1 (j 0) (j 2)) 0 * 1 + 1
        rw [h0]; simp only [pt1]; omega
      | ⟨1, _⟩ =>
        show win1_2.index (pt1 (j 0) (j 2)) 1 * 9 ≤ (j 1 : Nat) ∧ (j 1 : Nat) < win1_2.index (pt1 (j 0) (j 2)) 1 * 9 + 9
        rw [h1]; omega
      | ⟨2, _⟩ =>
        show win1_2.index (pt1 (j 0) (j 2)) 2 * 512 ≤ (j 2 : Nat) ∧ (j 2 : Nat) < win1_2.index (pt1 (j 0) (j 2)) 2 * 512 + 512
        rw [h2]; simp only [pt1]; omega⟩

end Cert.KernelIdeal.Arrays
-- ==== Proof.Result.lean ====
module
public import proofs.«01_k».proof.Proof.Nearest
public import proofs.«01_k».proof.Proof.Coe

/-! # The value both programs compute

  The normalised covariance of the neighbours' normals, with the neighbours given by a list of seventeen candidates in order
  of distance. -/

@[expose] public section

noncomputable section

open Idealize.ShloMosaic

namespace Cert.Spec

/-- The points `b` of the cloud that are the sixteen nearest neighbours of `i`, given seventeen candidates in order. -/
def nbhd {n : ℕ} (v : Cloud n) (nb : Fin n → Fin 17 → Fin n) (i : Fin n) : Finset (Fin n) :=
  near (dist2 v i) (dist2 v i (nb i 15))

/-- The normal at every point. -/
def normals {n : ℕ} (v : Cloud n) (nb : Fin n → Fin 17 → Fin n) : Cloud n := fun i a =>
  normal v (nbhd v nb i) (dist2 v i (nb i 15)) i a

/-- The covariance of the neighbours' normals, divided by its norm. -/
def result {n : ℕ} (v : Cloud n) (nb : Fin n → Fin 17 → Fin n) (i : Fin n) (a a' : Fin 3) : EReal :=
  ((ncov (normals v nb) (nbhd v nb i) a a' : ℝ) : EReal)
    * Ideal.rsqrt ((norm2 (ncov (normals v nb) (nbhd v nb i)) : ℝ) : EReal)

end Cert.Spec
-- ==== Proof.KernelValue.lean ====
module
public import proofs.«01_k».proof.Proof.Arrays
public import proofs.«01_k».proof.Proof.Result
public import Idealize.ShloMosaic.Lib.StableHlo.RunRead

/-! # What the kernel's result array holds

  The host transposes read through, the two kernels' arrays put one after the other: on clouds of real points each of which
  has sixteen nearest neighbours, the result at cloud `b`, point `i` and position `3 a + a'` is the entry `(a, a')` of the
  normalised covariance of the normals of the neighbours of `i`. -/

@[expose] public section

set_option maxRecDepth 16384

noncomputable section

open Idealize.ShloMosaic Idealize.ShloMosaic.TcCoe Idealize.SL.Sem Idealize.ShloMosaic.Pointwise Cert.Spec

namespace Cert.KernelIdeal.Arrays

open Cert.KernelIdeal Cert.KernelIdeal.Gen

variable (m : (b : Loc nD τ sig) → Buf (Elt Ideal) b) (ρ : Dev nD → PrngReg) (c : Dev nD)

/-- The argument array. -/
def arg : Vec Ideal S8x2048x3 .f32 := m ((c.tc : Thread nD τ).loc main_arg0)

theorem entry_arg : (V1 m ρ c main_arg0 : Vec Ideal S8x2048x3 .f32) = arg m c := W1_args m ρ c main_arg0 (by decide)

theorem entry_transposed (b : Fin 8) (a : Fin 3) (i : Fin 2048) :
    (V1 m ρ c main_v0 : Vec Ideal S8x3x2048 .f32) (ix3 b a i) = arg m c (ix3 b i a) := by
  have h : (V1 m ρ c main_v0 : Vec Ideal S8x3x2048 .f32)
      = transpose S8x3x2048 [0, 2, 1] (arg m c) transposes_S8x2048x3_S8x3x2048_0_2_1 := by
    show StableHlo.after hostOps0 (W0 m ρ c) (Proc.devRef .tc main_v0) = _
    after_reads_simp
    rfl
  rw [h]
  exact transpose_apply _ _ _ _ (ix3 b i a) fun x => by
    match x with
    | ⟨0, _⟩ => rfl
    | ⟨1, _⟩ => rfl
    | ⟨2, _⟩ => rfl

theorem second_masks : (V3 m ρ c main_v1_1 : Vec Ideal S8x2048x2048 .i8) = masksArr (V1 m ρ) c :=
  (W3_of m ρ c main_v1_1 (by decide)).trans ((W2_arr m ρ c 3).trans (masks_array (V1 m ρ) c))

theorem second_normals (b : Fin 8) (k : Fin 2048) (a : Fin 4) :
    (V3 m ρ c main_v2 : Vec Ideal S8x2048x4 .f32) (ix3 b k a) = normalsArr (V1 m ρ) c (ix3 b a k) := by
  have h : (V3 m ρ c main_v2 : Vec Ideal S8x2048x4 .f32)
      = transpose S8x2048x4 [0, 2, 1] (normalsArr (V1 m ρ) c) transposes_S8x4x2048_S8x2048x4_0_2_1 := by
    rw [← normals_array, show (dat0 (V1 m ρ) c).arrAt 2 cfg0.N = _ from (W2_arr m ρ c 2).symm]
    show StableHlo.after hostOps1 (W2 m ρ c) (Proc.devRef .tc main_v2) = _
    after_reads_simp
  rw [h]
  exact transpose_apply _ _ _ _ (ix3 b a k) fun x => by
    match x with
    | ⟨0, _⟩ => rfl
    | ⟨1, _⟩ => rfl
    | ⟨2, _⟩ => rfl

theorem exit_covs (b : Fin 8) (i : Fin 2048) (f : Fin 9) :
    (W5 m ρ c (Proc.devRef .tc main_v4) : Vec Ideal S8x2048x9 .f32) (ix3 b i f) = covsArr (V3 m ρ) c (ix3 b f i) := by
  have h : (W5 m ρ c (Proc.devRef .tc main_v4) : Vec Ideal S8x2048x9 .f32)
      = transpose S8x2048x9 [0, 2, 1] (covsArr (V3 m ρ) c) transposes_S8x9x2048_S8x2048x9_0_2_1 := by
    rw [← covs_array, show (dat1 (V3 m ρ) c).arrAt 2 cfg1.N = _ from (W4_arr m ρ c 2).symm]
    show StableHlo.after hostOps2 (W4 m ρ c) (Proc.devRef .tc main_v4) = _
    after_reads_simp
  rw [h]
  exact transpose_apply _ _ _ _ (ix3 b f i) fun x => by
    match x with
    | ⟨0, _⟩ => rfl
    | ⟨1, _⟩ => rfl
    | ⟨2, _⟩ => rfl

variable {m c} {v : Fin 8 → Cloud 2048} {nb : Fin 8 → Fin 2048 → Fin 17 → Fin 2048}

/-- What the first kernel's blocks hold at the lane of point `i`. -/
theorem lane_a (hv : ∀ b i a, arg m c (ix3 b i a) = ((v b i a : ℝ) : EReal)) (b : Fin 8) (i : Fin 2048) :
    Block.Lane (iblk0 (V1 m ρ) c 0 (pt0 b i)) (iblk0 (V1 m ρ) c 1 (pt0 b i)) (lane i) (v b) i where
  all k a := by rw [block0_0, entry_arg, hv]
  one a := by rw [block0_1, entry_transposed, hv]

/-- What the second kernel's blocks hold there: the neighbour mask of `i` and everyone's normals. -/
theorem lane_b (hv : ∀ b i a, arg m c (ix3 b i a) = ((v b i a : ℝ) : EReal))
    (hn : ∀ b i, Nearest (dist2 (v b) i) (nb b i)) (b : Fin 8) (i : Fin 2048) :
    BlockB.Lane (iblk1 (V3 m ρ) c 0 (pt1 b i)) (iblk1 (V3 m ρ) c 1 (pt1 b i)) (lane i)
      (Spec.normals (v b) (nb b)) (nbhd (v b) (nb b) i) where
  mask k := by
    rw [block1_0, second_masks]
    exact (lane_a ρ hv b i).mask_byte (hn b i) k
  n0 k := by
    rw [block1_1, second_normals]
    exact ((lane_a ρ hv b k).normals (hn b k)).1
  n1 k := by
    rw [block1_1, second_normals]
    exact ((lane_a ρ hv b k).normals (hn b k)).2.1
  n2 k := by
    rw [block1_1, second_normals]
    exact ((lane_a ρ hv b k).normals (hn b k)).2.2

/-- The result array. -/
theorem kernel_value (hv : ∀ b i a, arg m c (ix3 b i a) = ((v b i a : ℝ) : EReal))
    (hn : ∀ b i, Nearest (dist2 (v b) i) (nb b i)) (b : Fin 8) (i : Fin 2048) (a a' : Fin 3) :
    (W5 m ρ c (Proc.devRef .tc main_v4) : Vec Ideal S8x2048x9 .f32) (ix3 b i (BlockB.flat a a'))
      = Spec.result (v b) (nb b) i a a' := by
  rw [exit_covs]
  exact (lane_b ρ hv hn b i).out a a'

end Cert.KernelIdeal.Arrays
-- ==== Proof.RefStages.lean ====
module
public import proofs.«01_k».proof.Proof.Gen.ReferenceIdeal.Run

/-! # The reference, stage by stage

  Each stage of the reference as a function of the arrays it reads, in the program's own operations. -/

@[expose] public section

set_option maxRecDepth 16384

noncomputable section

open Idealize.ShloMosaic Idealize.ShloMosaic.TcCoe

namespace Cert.ReferenceIdeal.Stage

open Cert.ReferenceIdeal Cert.ReferenceIdeal.Gen

variable {F : FTy → Type} [FloatOps F]

/-- Minus the squared distance of every pair of points. -/
def negDist (v : FVec F S8x2048x3 .f32) : FVec F S8x2048x2048 .f32 :=
  (Host.negf (Host.reduceAdd (mulf (subf (broadcastInDim S8x2048x2048x3 ![0, 1, 2, 3] bcast_S8x2048x1x3_S8x2048x2048x3_0_1_2_3
    (broadcastInDim S8x2048x1x3 ![0, 1, 3] bcast_S8x2048x3_S8x2048x1x3_0_1_3 v))
    (broadcastInDim S8x2048x2048x3 ![0, 1, 2, 3] bcast_S8x1x2048x3_S8x2048x2048x3_0_1_2_3
    (broadcastInDim S8x1x2048x3 ![0, 2, 3] bcast_S8x2048x3_S8x1x2048x3_0_2_3 v))) (subf
    (broadcastInDim S8x2048x2048x3 ![0, 1, 2, 3] bcast_S8x2048x1x3_S8x2048x2048x3_0_1_2_3
    (broadcastInDim S8x2048x1x3 ![0, 1, 3] bcast_S8x2048x3_S8x2048x1x3_0_1_3 v))
    (broadcastInDim S8x2048x2048x3 ![0, 1, 2, 3] bcast_S8x1x2048x3_S8x2048x2048x3_0_1_2_3
    (broadcastInDim S8x1x2048x3 ![0, 2, 3] bcast_S8x2048x3_S8x1x2048x3_0_2_3 v))))
    (constant S_ .f32 0x00000000#32) reducesTo_S8x2048x2048x3_S8x2048x2048_d3 h_S_))

/-- The sixteen points with the greatest entries of `d`, for each point. -/
def chosen (d : FVec F S8x2048x2048 .f32) : IVec S8x2048x16 32 :=
  ((Host.topK S8x2048x16 2 (FloatOps.cmpfTotal .gt) d sliceFits_S8x2048x2048_S8x2048x16).2)

/-- The chosen points, seen from each point. -/
def offsets (v : FVec F S8x2048x3 .f32) (ind : IVec S8x2048x16 32) : FVec F S8x2048x16x3 .f32 :=
  (subf (Host.gather gather_S8x2048x3_S8x2048x16x1_S8x2048x16x3_3_1_0_0_1_3_113 v
    (broadcastInDim S8x2048x16x1 ![0, 1, 2] bcast_S8x2048x16_S8x2048x16x1_0_1_2 ind))
    (broadcastInDim S8x2048x16x3 ![0, 1, 2, 3] bcast_S8x2048x1x3_S8x2048x16x3_0_1_2_3
    (broadcastInDim S8x2048x1x3 ![0, 1, 3] bcast_S8x2048x3_S8x2048x1x3_0_1_3 v)))

/-- Their distances. -/
def dists (o : FVec F S8x2048x16x3 .f32) : FVec F S8x2048x16 .f32 :=
  (Host.sqrt (addf (Host.reduceAdd (mulf o o) (constant S_ .f32 0x00000000#32) reducesTo_S8x2048x16x3_S8x2048x16_d3 h_S_)
    (broadcastInDim S8x2048x16 ![] bcast_S_S8x2048x16 (constant S_ .f32 0x2B8CBCCC#32))))

/-- Their weights: how much nearer than the farthest each is. -/
def weights (r : FVec F S8x2048x16 .f32) : FVec F S8x2048x16 .f32 :=
  (addf (maximumf (subf (broadcastInDim S8x2048x16 ![0, 1, 2] bcast_S8x2048x1_S8x2048x16_0_1_2
    (broadcastInDim S8x2048x1 ![0, 1] bcast_S8x2048_S8x2048x1_0_1 (Host.reduce FloatOps.maximumf r
    (constant S_ .f32 0xFF800000#32) reducesTo_S8x2048x16_S8x2048_d2 h_S_))) r) (broadcastInDim S8x2048x16 ![] bcast_S_S8x2048x16
    (constant S_ .f32 0x00000000#32))) (broadcastInDim S8x2048x16 ![] bcast_S_S8x2048x16 (constant S_ .f32 0x358637BD#32)))

/-- The weighted covariance of the offsets. -/
def covs (w : FVec F S8x2048x16 .f32) (o : FVec F S8x2048x16x3 .f32) : FVec F S8x2048x3x3 .f32 :=
  (Host.divf (Host.dotGeneral dot_S8x2048x16x3_S8x2048x16x3_S8x2048x3x3_2_2_3_3_01_01 none (mulf
    (broadcastInDim S8x2048x16x3 ![0, 1, 2, 3] bcast_S8x2048x16x1_S8x2048x16x3_0_1_2_3
    (broadcastInDim S8x2048x16x1 ![0, 1, 2] bcast_S8x2048x16_S8x2048x16x1_0_1_2 w)) o) o)
    (broadcastInDim S8x2048x3x3 ![0, 1, 2, 3] bcast_S8x2048x1x1_S8x2048x3x3_0_1_2_3
    (broadcastInDim S8x2048x1x1 ![0, 1] bcast_S8x2048_S8x2048x1x1_0_1 (Host.reduceAdd w
    (constant S_ .f32 0x00000000#32) reducesTo_S8x2048x16_S8x2048_d2 h_S_))))

/-- The identity matrix. -/
def eye : FVec F S3x3 .f32 :=
  (uitofp .f32 (cmpi .eq (addi (iotaInDim S3x3 32 0) (broadcastInDim S3x3 ![] bcast_S_S3x3 (constantI S_ 32 0#32))) (iotaInDim S3x3 32 1)))

/-- A third of the trace. -/
def thirds (a : FVec F S8x2048x3x3 .f32) (e : FVec F S3x3 .f32) : FVec F S8x2048 .f32 :=
  (Host.divf (Host.reduceAdd (Host.reduceAdd (mulf a (broadcastInDim S8x2048x3x3 ![0, 1, 2, 3] bcast_S1x1x3x3_S8x2048x3x3_0_1_2_3
    (broadcastInDim S1x1x3x3 ![1, 2, 3] bcast_S1x3x3_S1x1x3x3_1_2_3 (broadcastInDim S1x3x3 ![1, 2] bcast_S3x3_S1x3x3_1_2 e))))
    (constant S_ .f32 0x00000000#32) reducesTo_S8x2048x3x3_S8x2048x3_d3 h_S_) (constant S_ .f32 0x00000000#32) reducesTo_S8x2048x3_S8x2048_d2 h_S_)
    (broadcastInDim S8x2048 ![] bcast_S_S8x2048 (constant S_ .f32 0x40400000#32)))

/-- The matrix minus `t` times the identity. -/
def shifted (a : FVec F S8x2048x3x3 .f32) (e : FVec F S3x3 .f32) (t : FVec F S8x2048 .f32) : FVec F S8x2048x3x3 .f32 :=
  (subf a (mulf (broadcastInDim S8x2048x3x3 ![0, 1, 2, 3] bcast_S8x2048x1x1_S8x2048x3x3_0_1_2_3
    (broadcastInDim S8x2048x1x1 ![0, 1] bcast_S8x2048_S8x2048x1x1_0_1 t))
    (broadcastInDim S8x2048x3x3 ![0, 1, 2, 3] bcast_S1x1x3x3_S8x2048x3x3_0_1_2_3 (broadcastInDim S1x1x3x3 ![1, 2, 3] bcast_S1x3x3_S1x1x3x3_1_2_3
    (broadcastInDim S1x3x3 ![1, 2] bcast_S3x3_S1x3x3_1_2 e)))))

/-- The traceless part divided by its size. -/
def scaled (b : FVec F S8x2048x3x3 .f32) : FVec F S8x2048x3x3 .f32 :=
  (Host.divf b (broadcastInDim S8x2048x3x3 ![0, 1, 2, 3] bcast_S8x2048x1x1_S8x2048x3x3_0_1_2_3
    (broadcastInDim S8x2048x1x1 ![0, 1] bcast_S8x2048_S8x2048x1x1_0_1 (addf (Host.sqrt (Host.divf (Host.reduceAdd (Host.reduceAdd (mulf b b)
    (constant S_ .f32 0x00000000#32) reducesTo_S8x2048x3x3_S8x2048x3_d3 h_S_) (constant S_ .f32 0x00000000#32) reducesTo_S8x2048x3_S8x2048_d2 h_S_)
    (broadcastInDim S8x2048 ![] bcast_S_S8x2048 (constant S_ .f32 0x40C00000#32)))) (broadcastInDim S8x2048 ![] bcast_S_S8x2048
    (constant S_ .f32 0x0DA24260#32))))))

/-- Each row replaced by the next one, the last by the first. -/
def rowsUp (a : FVec F S8x2048x3x3 .f32) : FVec F S8x2048x3x3 .f32 :=
  concatenate S8x2048x3x3 2 [⟨S8x2048x2x3, extractStridedSlice S8x2048x2x3 ![0, 0, 1, 0] a slices_S8x2048x3x3_S8x2048x2x3_0_0_1_0⟩,
    ⟨S8x2048x1x3, extractStridedSlice S8x2048x1x3 ![0, 0, 0, 0] a slices_S8x2048x3x3_S8x2048x1x3_0_0_0_0⟩] concatenates_S8x2048x2x3_S8x2048x1x3_S8x2048x3x3_d2

/-- Each row replaced by the one before, the first by the last. -/
def rowsDown (a : FVec F S8x2048x3x3 .f32) : FVec F S8x2048x3x3 .f32 :=
  concatenate S8x2048x3x3 2 [⟨S8x2048x1x3, extractStridedSlice S8x2048x1x3 ![0, 0, 2, 0] a slices_S8x2048x3x3_S8x2048x1x3_0_0_2_0⟩,
    ⟨S8x2048x2x3, extractStridedSlice S8x2048x2x3 ![0, 0, 0, 0] a slices_S8x2048x3x3_S8x2048x2x3_0_0_0_0⟩] concatenates_S8x2048x1x3_S8x2048x2x3_S8x2048x3x3_d2

/-- Each column replaced by the next one. -/
def colsUp (a : FVec F S8x2048x3x3 .f32) : FVec F S8x2048x3x3 .f32 :=
  concatenate S8x2048x3x3 3 [⟨S8x2048x3x2, extractStridedSlice S8x2048x3x2 ![0, 0, 0, 1] a slices_S8x2048x3x3_S8x2048x3x2_0_0_0_1⟩,
    ⟨S8x2048x3x1, extractStridedSlice S8x2048x3x1 ![0, 0, 0, 0] a slices_S8x2048x3x3_S8x2048x3x1_0_0_0_0⟩] concatenates_S8x2048x3x2_S8x2048x3x1_S8x2048x3x3_d3

/-- Each column replaced by the one before. -/
def colsDown (a : FVec F S8x2048x3x3 .f32) : FVec F S8x2048x3x3 .f32 :=
  concatenate S8x2048x3x3 3 [⟨S8x2048x3x1, extractStridedSlice S8x2048x3x1 ![0, 0, 0, 2] a slices_S8x2048x3x3_S8x2048x3x1_0_0_0_2⟩,
    ⟨S8x2048x3x2, extractStridedSlice S8x2048x3x2 ![0, 0, 0, 0] a slices_S8x2048x3x3_S8x2048x3x2_0_0_0_0⟩] concatenates_S8x2048x3x1_S8x2048x3x2_S8x2048x3x3_d3

/-- The cofactors. -/
def cofactors (a : FVec F S8x2048x3x3 .f32) : FVec F S8x2048x3x3 .f32 :=
  subf (mulf (colsUp (rowsUp a)) (colsDown (rowsDown a))) (mulf (colsDown (rowsUp a)) (colsUp (rowsDown a)))

/-- The determinant. -/
def dets (a : FVec F S8x2048x3x3 .f32) (k : FVec F S8x2048x3x3 .f32) : FVec F S8x2048 .f32 :=
  (Host.divf (Host.reduceAdd (Host.reduceAdd (mulf a k) (constant S_ .f32 0x00000000#32) reducesTo_S8x2048x3x3_S8x2048x3_d3 h_S_)
    (constant S_ .f32 0x00000000#32) reducesTo_S8x2048x3_S8x2048_d2 h_S_) (broadcastInDim S8x2048 ![] bcast_S_S8x2048
    (constant S_ .f32 0x40400000#32)))

/-- Where the Newton steps start. -/
def starts : FVec F S8x2048 .f32 :=
  (broadcastInDim S8x2048 ![1] bcast_S2048_S8x2048_1 (broadcastInDim S2048 ![] bcast_S_S2048 (constant S_ .f32 0xC0001062#32)))

/-- One Newton step on the cubic. -/
def newtons (d t : FVec F S8x2048 .f32) : FVec F S8x2048 .f32 :=
  subf t (Host.divf
    (subf (subf (mulf (mulf t t) t) (mulf (broadcastInDim S8x2048 ![] bcast_S_S8x2048 (constant S_ .f32 0x40400000#32)) t)) d)
    (subf (mulf (mulf (broadcastInDim S8x2048 ![] bcast_S_S8x2048 (constant S_ .f32 0x40400000#32)) t) t)
      (broadcastInDim S8x2048 ![] bcast_S_S8x2048 (constant S_ .f32 0x40400000#32))))

/-- The squared lengths of the rows. -/
def lengths (k : FVec F S8x2048x3x3 .f32) : FVec F S8x2048x3x1 .f32 :=
  (broadcastInDim S8x2048x3x1 ![0, 1, 2] bcast_S8x2048x3_S8x2048x3x1_0_1_2 (Host.reduceAdd (mulf k k)
    (constant S_ .f32 0x00000000#32) reducesTo_S8x2048x3x3_S8x2048x3_d3 h_S_))

/-- The longest row. -/
def longest (k : FVec F S8x2048x3x3 .f32) (n : FVec F S8x2048x3x1 .f32) : FVec F S8x2048x3 .f32 :=
  (select (broadcastInDim S8x2048x3 ![0, 1, 2] bcast_S8x2048x1_S8x2048x3_0_1_2 (andi (cmpf .oge (shapeCast S8x2048x1
    (extractStridedSlice S8x2048x1x1 ![0, 0, 0, 0] n slices_S8x2048x3x1_S8x2048x1x1_0_0_0_0) shapeCasts_S8x2048x1x1_S8x2048x1) (shapeCast S8x2048x1
    (extractStridedSlice S8x2048x1x1 ![0, 0, 1, 0] n slices_S8x2048x3x1_S8x2048x1x1_0_0_1_0) shapeCasts_S8x2048x1x1_S8x2048x1)) (cmpf .oge
    (shapeCast S8x2048x1 (extractStridedSlice S8x2048x1x1 ![0, 0, 0, 0] n slices_S8x2048x3x1_S8x2048x1x1_0_0_0_0) shapeCasts_S8x2048x1x1_S8x2048x1)
    (shapeCast S8x2048x1
    (extractStridedSlice S8x2048x1x1 ![0, 0, 2, 0] n slices_S8x2048x3x1_S8x2048x1x1_0_0_2_0) shapeCasts_S8x2048x1x1_S8x2048x1))))
    (shapeCast S8x2048x3 (extractStridedSlice S8x2048x1x3 ![0, 0, 0, 0] k slices_S8x2048x3x3_S8x2048x1x3_0_0_0_0) shapeCasts_S8x2048x1x3_S8x2048x3)
    (select (broadcastInDim S8x2048x3 ![0, 1, 2] bcast_S8x2048x1_S8x2048x3_0_1_2 (cmpf .oge (shapeCast S8x2048x1
    (extractStridedSlice S8x2048x1x1 ![0, 0, 1, 0] n slices_S8x2048x3x1_S8x2048x1x1_0_0_1_0) shapeCasts_S8x2048x1x1_S8x2048x1) (shapeCast S8x2048x1
    (extractStridedSlice S8x2048x1x1 ![0, 0, 2, 0] n slices_S8x2048x3x1_S8x2048x1x1_0_0_2_0) shapeCasts_S8x2048x1x1_S8x2048x1)))
    (shapeCast S8x2048x3 (extractStridedSlice S8x2048x1x3 ![0, 0, 1, 0] k slices_S8x2048x3x3_S8x2048x1x3_0_0_1_0) shapeCasts_S8x2048x1x3_S8x2048x3)
    (shapeCast S8x2048x3 (extractStridedSlice S8x2048x1x3 ![0, 0, 2, 0] k slices_S8x2048x3x3_S8x2048x1x3_0_0_2_0) shapeCasts_S8x2048x1x3_S8x2048x3)))

/-- The row divided by its length. -/
def units (e : FVec F S8x2048x3 .f32) : FVec F S8x2048x3 .f32 :=
  (mulf e (broadcastInDim S8x2048x3 ![0, 1, 2] bcast_S8x2048x1_S8x2048x3_0_1_2 (Host.rsqrt (addf
    (broadcastInDim S8x2048x1 ![0, 1] bcast_S8x2048_S8x2048x1_0_1 (Host.reduceAdd (mulf e e)
    (constant S_ .f32 0x00000000#32) reducesTo_S8x2048x3_S8x2048_d2 h_S_)) (broadcastInDim S8x2048x1 ![] bcast_S_S8x2048x1
    (constant S_ .f32 0x0DA24260#32))))))

/-- The sign of the offsets' projections, summed. -/
def signs (o : FVec F S8x2048x16x3 .f32) (e : FVec F S8x2048x3 .f32) : FVec F S8x2048 .f32 :=
  (select (cmpf .oeq (Host.sign (Host.reduceAdd (Host.dotGeneral dot_S8x2048x16x3_S8x2048x3_S8x2048x16_3_2_2_n_01_01 none o e)
    (constant S_ .f32 0x00000000#32) reducesTo_S8x2048x16_S8x2048_d2 h_S_)) (broadcastInDim S8x2048 ![] bcast_S_S8x2048
    (constant S_ .f32 0x00000000#32))) (broadcastInDim S8x2048 ![1] bcast_S2048_S8x2048_1 (broadcastInDim S2048 ![] bcast_S_S2048
    (constant S_ .f32 0x3F800000#32))) (Host.sign (Host.reduceAdd (Host.dotGeneral dot_S8x2048x16x3_S8x2048x3_S8x2048x16_3_2_2_n_01_01 none o e)
    (constant S_ .f32 0x00000000#32) reducesTo_S8x2048x16_S8x2048_d2 h_S_)))

/-- The vector turned against that sign. -/
def oriented (e : FVec F S8x2048x3 .f32) (s : FVec F S8x2048 .f32) : FVec F S8x2048x3 .f32 :=
  (mulf e (broadcastInDim S8x2048x3 ![0, 1, 2] bcast_S8x2048x1_S8x2048x3_0_1_2 (broadcastInDim S8x2048x1 ![0, 1] bcast_S8x2048_S8x2048x1_0_1
    (Host.negf s))))

/-- The chosen points' vectors. -/
def gathered (n : FVec F S8x2048x3 .f32) (ind : IVec S8x2048x16 32) : FVec F S8x2048x16x3 .f32 :=
  (Host.gather gather_S8x2048x3_S8x2048x16x1_S8x2048x16x3_3_1_0_0_1_3_113 n
    (broadcastInDim S8x2048x16x1 ![0, 1, 2] bcast_S8x2048x16_S8x2048x16x1_0_1_2 ind))

/-- Those minus their mean. -/
def centred (g : FVec F S8x2048x16x3 .f32) : FVec F S8x2048x16x3 .f32 :=
  (subf g (broadcastInDim S8x2048x16x3 ![0, 1, 2, 3] bcast_S8x2048x1x3_S8x2048x16x3_0_1_2_3 (Host.divf
    (broadcastInDim S8x2048x1x3 ![0, 1, 3] bcast_S8x2048x3_S8x2048x1x3_0_1_3 (Host.reduceAdd g
    (constant S_ .f32 0x00000000#32) reducesTo_S8x2048x16x3_S8x2048x3_d2 h_S_)) (broadcastInDim S8x2048x1x3 ![] bcast_S_S8x2048x1x3
    (constant S_ .f32 0x41800000#32)))))

/-- Their covariance, nine entries in a row. -/
def flats (c : FVec F S8x2048x16x3 .f32) : FVec F S8x2048x9 .f32 :=
  (shapeCast S8x2048x9 (Host.divf (Host.dotGeneral dot_S8x2048x16x3_S8x2048x16x3_S8x2048x3x3_2_2_3_3_01_01 none c c)
    (broadcastInDim S8x2048x3x3 ![] bcast_S_S8x2048x3x3 (constant S_ .f32 0x41800000#32))) shapeCasts_S8x2048x3x3_S8x2048x9)

/-- Those divided by their norm. -/
def normed (f : FVec F S8x2048x9 .f32) : FVec F S8x2048x9 .f32 :=
  (mulf f (broadcastInDim S8x2048x9 ![0, 1, 2] bcast_S8x2048x1_S8x2048x9_0_1_2 (Host.divf (broadcastInDim S8x2048x1 ![] bcast_S_S8x2048x1
    (constant S_ .f32 0x3F800000#32)) (Host.sqrt (broadcastInDim S8x2048x1 ![0, 1] bcast_S8x2048_S8x2048x1_0_1 (Host.reduceAdd (mulf f f)
    (constant S_ .f32 0x00000000#32) reducesTo_S8x2048x9_S8x2048_d2 h_S_))))))

end Cert.ReferenceIdeal.Stage
-- ==== Proof.RefLine.lean ====
module
public import proofs.«01_k».proof.Proof.RefStages

/-! # Reading a line of operations

  The reference's operations before and after its loop, the buffers they write, and what a cut of such a line leaves in a buffer. -/

@[expose] public section

set_option maxRecDepth 16384

noncomputable section

open Idealize.ShloMosaic Idealize.ShloMosaic.TcCoe Idealize.ShloMosaic.StableHlo Idealize.SL.Sem

namespace Cert.ReferenceIdeal.Read

open Cert.ReferenceIdeal Cert.ReferenceIdeal.Gen Cert.ReferenceIdeal.Value

/-- A line of operations, cut before its `a`-th. -/
theorem after_cut {Val : EltTy → Type} (ops : List (HloOp τ sig Val)) (a : ℕ) (V : Valuation τ sig Val) :
    after ops V = after (ops.drop a) (after (ops.take a) V) := by
  conv_lhs => rw [← List.take_append_drop a ops]
  generalize ops.take a = l
  induction l generalizing V with
  | nil => rfl
  | cons op l ih => exact ih _

section Line

variable {Val : EltTy → Type} {ops : List (HloOp τ sig Val)} {W : List (Ref sig .tc)}
  (hW : ops.map HloOp.writes = W.map fun w => {Proc.devRef (τ := τ) .tc w})
include hW

/-- A buffer that no operation from the `a`-th on writes is as the first `a` leave it. -/
theorem keep (a : ℕ) {r : Ref sig .tc} (hr : r ∉ W.drop a) (V : Valuation τ sig Val) :
    after ops V (Proc.devRef .tc r) = after (ops.take a) V (Proc.devRef .tc r) := by
  rw [after_cut ops a]
  exact after_unwritten (W.drop a) (by rw [List.map_drop, hW, List.map_drop]) hr _

/-- A buffer that no operation from the `b`-th on writes is as the operations from the `a`-th to the `b`-th leave it. -/
theorem span (a b : ℕ) (hab : a ≤ b) {r : Ref sig .tc} (hr : r ∉ W.drop b) (V : Valuation τ sig Val) :
    after ops V (Proc.devRef .tc r)
      = after ((ops.drop a).take (b - a)) (after (ops.take a) V) (Proc.devRef .tc r) := by
  rw [keep hW b hr, after_cut (ops.take b) a, List.take_take, Nat.min_eq_left hab, List.drop_take]

end Line

variable {F : FTy → Type} [FloatOps F]

/-- The operations before the loop, and after it, each in one line. -/
abbrev preOps : List (HloOp τ sig (Elt F)) := preI.flatten
abbrev postOps : List (HloOp τ sig (Elt F)) := postI.flatten

/-- The buffers they write. -/
def preRefs : List (Ref sig .tc) :=
  [main_v0, main_v1, main_v2, main_v3, main_v4, main_v5, main_cst, main_v6, main_v7, main_values, main_indices, main_v8, main_v9, main_v10,
   main_v11, main_v12, main_v13, main_cst_0, main_v14, main_cst_1, main_v15, main_v16, main_v17, main_cst_2, main_v18, main_v19, main_v20,
   main_v21, main_cst_3, main_v22, main_v23, main_cst_4, main_v24, main_v25, main_v26, main_v27, main_v28, main_v29, main_cst_5, main_v30,
   main_v31, main_v32, main_v33, main_v34, main_v35, main_c, main_v36, main_v37, main_v38, main_v39, main_v40, main_v41, main_v42, main_v43,
   main_cst_6, main_v44, main_cst_7, main_v45, main_cst_8, main_v46, main_v47, main_v48, main_v49, main_v50, main_v51, main_v52, main_v53,
   main_v54, main_v55, main_cst_9, main_v56, main_cst_10, main_v57, main_cst_11, main_v58, main_v59, main_v60, main_cst_12, main_v61, main_v62,
   main_v63, main_v64, main_v65, main_call0_v0, main_call0_v1, main_v66, main_call1_v0, main_call1_v1, main_v67, main_call2_v0, main_call2_v1,
   main_v68, main_call3_v0, main_call3_v1, main_v69, main_v70, main_call4_v0, main_call4_v1, main_v71, main_call5_v0, main_call5_v1, main_v72,
   main_v73, main_v74, main_v75, main_cst_13, main_v76, main_cst_14, main_v77, main_cst_15, main_v78, main_v79, main_cst_16, main_v80, main_v81,
   main_c_17, main_c_18, main_v82_0, main_v82_1, main_v82_2, main_v82_3]

def postRefs : List (Ref sig .tc) :=
  [main_v83, main_v84, main_v85, main_v86, main_v87, main_v88, main_v89, main_call6_v0, main_call6_v1, main_v90, main_call7_v0, main_call7_v1,
   main_v91, main_call8_v0, main_call8_v1, main_v92, main_call9_v0, main_call9_v1, main_v93, main_v94, main_call10_v0, main_call10_v1, main_v95,
   main_call11_v0, main_call11_v1, main_v96, main_v97, main_v98, main_v99, main_cst_19, main_v100, main_v101, main_v102, main_v103, main_v104,
   main_v105, main_v106, main_v107, main_v108, main_v109, main_v110, main_v111, main_v112, main_v113, main_v114, main_v115, main_v116, main_v117,
   main_call12_v0, main_v118, main_call13_v0, main_v119, main_v120, main_cst_20, main_v121, main_v122, main_cst_21, main_v123, main_v124,
   main_v125, main_v126, main_v127, main_v128, main_cst_22, main_v129, main_v130, main_cst_23, main_v131, main_v132, main_cst_24, main_call14_v0,
   main_call14_v1, main_call14_v2, main_v133, main_v134, main_v135, main_v136, main_v137, main_v138, main_v139, main_cst_25, main_v140, main_v141,
   main_cst_26, main_v142, main_v143, main_v144, main_v145, main_v146, main_cst_27, main_v147, main_v148, main_v149, main_call15_v0,
   main_call15_cst, main_call15_v1, main_call15_v2, main_v150, main_cst_28, main_v151, main_v152, main_v153, main_v154]

theorem pre_writes : (preOps (F := F)).map HloOp.writes = preRefs.map fun w => {Proc.devRef (τ := τ) .tc w} := rfl
theorem post_writes : (postOps (F := F)).map HloOp.writes = postRefs.map fun w => {Proc.devRef (τ := τ) .tc w} := rfl

end Cert.ReferenceIdeal.Read
-- ==== Proof.RefPre.lean ====
module
public import proofs.«01_k».proof.Proof.RefLine

/-! # The reference's buffers before its loop

  Each holds its stage's function of the buffers that the stage reads, all of them as the line leaves them. -/

@[expose] public section

set_option maxRecDepth 16384

noncomputable section

open Idealize.ShloMosaic Idealize.ShloMosaic.TcCoe Idealize.ShloMosaic.StableHlo Idealize.SL.Sem

namespace Cert.ReferenceIdeal.Read

open Cert.ReferenceIdeal Cert.ReferenceIdeal.Gen Cert.ReferenceIdeal.Value

variable {F : FTy → Type} [FloatOps F] (V : Valuation τ sig (Elt F))

theorem pre_v7 : after preOps V (Proc.devRef .tc main_v7) =
    Stage.negDist (after preOps V (Proc.devRef .tc main_arg0)) := by
  rw [keep pre_writes 0 (r := main_arg0) (by decide +kernel),
    span pre_writes 0 9 (by decide) (by decide +kernel)]
  generalize after (preOps.take 0) V = X
  after_reads_simp
  rfl

theorem pre_indices : after preOps V (Proc.devRef .tc main_indices) =
    Stage.chosen (after preOps V (Proc.devRef .tc main_v7)) := by
  rw [keep pre_writes 10 (r := main_v7) (by decide +kernel),
    span pre_writes 10 11 (by decide) (by decide +kernel)]
  generalize after (preOps.take 10) V = X
  after_reads_simp
  rfl

theorem pre_v12 : after preOps V (Proc.devRef .tc main_v12) =
    Stage.offsets (after preOps V (Proc.devRef .tc main_arg0)) (after preOps V (Proc.devRef .tc main_indices)) := by
  rw [keep pre_writes 11 (r := main_arg0) (by decide +kernel),
    keep pre_writes 11 (r := main_indices) (by decide +kernel),
    span pre_writes 11 16 (by decide) (by decide +kernel)]
  generalize after (preOps.take 11) V = X
  after_reads_simp
  rfl

theorem pre_v17 : after preOps V (Proc.devRef .tc main_v17) =
    Stage.dists (after preOps V (Proc.devRef .tc main_v12)) := by
  rw [keep pre_writes 16 (r := main_v12) (by decide +kernel),
    span pre_writes 16 23 (by decide) (by decide +kernel)]
  generalize after (preOps.take 16) V = X
  after_reads_simp
  rfl

theorem pre_v25 : after preOps V (Proc.devRef .tc main_v25) =
    Stage.weights (after preOps V (Proc.devRef .tc main_v17)) := by
  rw [keep pre_writes 23 (r := main_v17) (by decide +kernel),
    span pre_writes 23 34 (by decide) (by decide +kernel)]
  generalize after (preOps.take 23) V = X
  after_reads_simp
  rfl

theorem pre_v33 : after preOps V (Proc.devRef .tc main_v33) =
    Stage.covs (after preOps V (Proc.devRef .tc main_v25)) (after preOps V (Proc.devRef .tc main_v12)) := by
  rw [keep pre_writes 34 (r := main_v25) (by decide +kernel),
    keep pre_writes 34 (r := main_v12) (by decide +kernel),
    span pre_writes 34 43 (by decide) (by decide +kernel)]
  generalize after (preOps.take 34) V = X
  after_reads_simp
  rfl

theorem pre_v39 : after preOps V (Proc.devRef .tc main_v39) =
    Stage.eye := by
  rw [span pre_writes 43 50 (by decide) (by decide +kernel)]
  generalize after (preOps.take 43) V = X
  after_reads_simp
  rfl

theorem pre_v47 : after preOps V (Proc.devRef .tc main_v47) =
    Stage.thirds (after preOps V (Proc.devRef .tc main_v33)) (after preOps V (Proc.devRef .tc main_v39)) := by
  rw [keep pre_writes 50 (r := main_v33) (by decide +kernel),
    keep pre_writes 50 (r := main_v39) (by decide +kernel),
    span pre_writes 50 61 (by decide) (by decide +kernel)]
  generalize after (preOps.take 50) V = X
  after_reads_simp
  rfl

theorem pre_v54 : after preOps V (Proc.devRef .tc main_v54) =
    Stage.shifted (after preOps V (Proc.devRef .tc main_v33)) (after preOps V (Proc.devRef .tc main_v39)) (after preOps V (Proc.devRef .tc main_v47)) := by
  rw [keep pre_writes 61 (r := main_v33) (by decide +kernel),
    keep pre_writes 61 (r := main_v39) (by decide +kernel),
    keep pre_writes 61 (r := main_v47) (by decide +kernel),
    span pre_writes 61 68 (by decide) (by decide +kernel)]
  generalize after (preOps.take 61) V = X
  after_reads_simp
  rfl

theorem pre_v65 : after preOps V (Proc.devRef .tc main_v65) =
    Stage.scaled (after preOps V (Proc.devRef .tc main_v54)) := by
  rw [keep pre_writes 68 (r := main_v54) (by decide +kernel),
    span pre_writes 68 83 (by decide) (by decide +kernel)]
  generalize after (preOps.take 68) V = X
  after_reads_simp
  rfl

theorem pre_v66 : after preOps V (Proc.devRef .tc main_v66) =
    Stage.rowsUp (after preOps V (Proc.devRef .tc main_v65)) := by
  rw [keep pre_writes 83 (r := main_v65) (by decide +kernel),
    span pre_writes 83 86 (by decide) (by decide +kernel)]
  generalize after (preOps.take 83) V = X
  after_reads_simp
  rfl

theorem pre_v67 : after preOps V (Proc.devRef .tc main_v67) =
    Stage.rowsDown (after preOps V (Proc.devRef .tc main_v65)) := by
  rw [keep pre_writes 86 (r := main_v65) (by decide +kernel),
    span pre_writes 86 89 (by decide) (by decide +kernel)]
  generalize after (preOps.take 86) V = X
  after_reads_simp
  rfl

theorem pre_v68 : after preOps V (Proc.devRef .tc main_v68) =
    Stage.colsUp (after preOps V (Proc.devRef .tc main_v66)) := by
  rw [keep pre_writes 89 (r := main_v66) (by decide +kernel),
    span pre_writes 89 92 (by decide) (by decide +kernel)]
  generalize after (preOps.take 89) V = X
  after_reads_simp
  rfl

theorem pre_v69 : after preOps V (Proc.devRef .tc main_v69) =
    Stage.colsDown (after preOps V (Proc.devRef .tc main_v67)) := by
  rw [keep pre_writes 92 (r := main_v67) (by decide +kernel),
    span pre_writes 92 95 (by decide) (by decide +kernel)]
  generalize after (preOps.take 92) V = X
  after_reads_simp
  rfl

theorem pre_v70 : after preOps V (Proc.devRef .tc main_v70) =
    mulf (F := F) (s := S8x2048x3x3) (φ := .f32) (after preOps V (Proc.devRef .tc main_v68)) (after preOps V (Proc.devRef .tc main_v69)) := by
  rw [keep pre_writes 95 (r := main_v68) (by decide +kernel),
    keep pre_writes 95 (r := main_v69) (by decide +kernel),
    span pre_writes 95 96 (by decide) (by decide +kernel)]
  generalize after (preOps.take 95) V = X
  after_reads_simp

theorem pre_v71 : after preOps V (Proc.devRef .tc main_v71) =
    Stage.colsDown (after preOps V (Proc.devRef .tc main_v66)) := by
  rw [keep pre_writes 96 (r := main_v66) (by decide +kernel),
    span pre_writes 96 99 (by decide) (by decide +kernel)]
  generalize after (preOps.take 96) V = X
  after_reads_simp
  rfl

theorem pre_v72 : after preOps V (Proc.devRef .tc main_v72) =
    Stage.colsUp (after preOps V (Proc.devRef .tc main_v67)) := by
  rw [keep pre_writes 99 (r := main_v67) (by decide +kernel),
    span pre_writes 99 102 (by decide) (by decide +kernel)]
  generalize after (preOps.take 99) V = X
  after_reads_simp
  rfl

theorem pre_v74' : after preOps V (Proc.devRef .tc main_v74) =
    subf (F := F) (s := S8x2048x3x3) (φ := .f32) (after preOps V (Proc.devRef .tc main_v70))
      (mulf (after preOps V (Proc.devRef .tc main_v71))
        (after preOps V (Proc.devRef .tc main_v72))) := by
  rw [keep pre_writes 102 (r := main_v70) (by decide +kernel),
    keep pre_writes 102 (r := main_v71) (by decide +kernel),
    keep pre_writes 102 (r := main_v72) (by decide +kernel),
    span pre_writes 102 104 (by decide) (by decide +kernel)]
  generalize after (preOps.take 102) V = X
  after_reads_simp

theorem pre_v74 : after preOps V (Proc.devRef .tc main_v74) =
    Stage.cofactors (after preOps V (Proc.devRef .tc main_v65)) := by
  rw [pre_v74', pre_v70, pre_v68, pre_v69, pre_v71, pre_v72, pre_v66, pre_v67]
  rfl

theorem pre_v79 : after preOps V (Proc.devRef .tc main_v79) =
    Stage.dets (after preOps V (Proc.devRef .tc main_v65)) (after preOps V (Proc.devRef .tc main_v74)) := by
  rw [keep pre_writes 104 (r := main_v65) (by decide +kernel),
    keep pre_writes 104 (r := main_v74) (by decide +kernel),
    span pre_writes 104 112 (by decide) (by decide +kernel)]
  generalize after (preOps.take 104) V = X
  after_reads_simp
  rfl

theorem pre_v82_3 : after preOps V (Proc.devRef .tc main_v82_3) =
    Stage.starts := by
  rw [span pre_writes 112 121 (by decide) (by decide +kernel)]
  generalize after (preOps.take 112) V = X
  after_reads_simp
  rfl

end Cert.ReferenceIdeal.Read
-- ==== Proof.RefPost.lean ====
module
public import proofs.«01_k».proof.Proof.RefLine

/-! # The reference's buffers after its loop

  Each holds its stage's function of the buffers that the stage reads, all of them as the line leaves them. -/

@[expose] public section

set_option maxRecDepth 16384

noncomputable section

open Idealize.ShloMosaic Idealize.ShloMosaic.TcCoe Idealize.ShloMosaic.StableHlo Idealize.SL.Sem

namespace Cert.ReferenceIdeal.Read

open Cert.ReferenceIdeal Cert.ReferenceIdeal.Gen Cert.ReferenceIdeal.Value

variable {F : FTy → Type} [FloatOps F] (V : Valuation τ sig (Elt F))

theorem post_v89 : after postOps V (Proc.devRef .tc main_v89) =
    Stage.shifted (after postOps V (Proc.devRef .tc main_v65)) (after postOps V (Proc.devRef .tc main_v39)) (after postOps V (Proc.devRef .tc main_v82_3)) := by
  rw [keep post_writes 0 (r := main_v65) (by decide +kernel),
    keep post_writes 0 (r := main_v39) (by decide +kernel),
    keep post_writes 0 (r := main_v82_3) (by decide +kernel),
    span post_writes 0 7 (by decide) (by decide +kernel)]
  generalize after (postOps.take 0) V = X
  after_reads_simp
  rfl

theorem post_v90 : after postOps V (Proc.devRef .tc main_v90) =
    Stage.rowsUp (after postOps V (Proc.devRef .tc main_v89)) := by
  rw [keep post_writes 7 (r := main_v89) (by decide +kernel),
    span post_writes 7 10 (by decide) (by decide +kernel)]
  generalize after (postOps.take 7) V = X
  after_reads_simp
  rfl

theorem post_v91 : after postOps V (Proc.devRef .tc main_v91) =
    Stage.rowsDown (after postOps V (Proc.devRef .tc main_v89)) := by
  rw [keep post_writes 10 (r := main_v89) (by decide +kernel),
    span post_writes 10 13 (by decide) (by decide +kernel)]
  generalize after (postOps.take 10) V = X
  after_reads_simp
  rfl

theorem post_v92 : after postOps V (Proc.devRef .tc main_v92) =
    Stage.colsUp (after postOps V (Proc.devRef .tc main_v90)) := by
  rw [keep post_writes 13 (r := main_v90) (by decide +kernel),
    span post_writes 13 16 (by decide) (by decide +kernel)]
  generalize after (postOps.take 13) V = X
  after_reads_simp
  rfl

theorem post_v93 : after postOps V (Proc.devRef .tc main_v93) =
    Stage.colsDown (after postOps V (Proc.devRef .tc main_v91)) := by
  rw [keep post_writes 16 (r := main_v91) (by decide +kernel),
    span post_writes 16 19 (by decide) (by decide +kernel)]
  generalize after (postOps.take 16) V = X
  after_reads_simp
  rfl

theorem post_v94 : after postOps V (Proc.devRef .tc main_v94) =
    mulf (F := F) (s := S8x2048x3x3) (φ := .f32) (after postOps V (Proc.devRef .tc main_v92)) (after postOps V (Proc.devRef .tc main_v93)) := by
  rw [keep post_writes 19 (r := main_v92) (by decide +kernel),
    keep post_writes 19 (r := main_v93) (by decide +kernel),
    span post_writes 19 20 (by decide) (by decide +kernel)]
  generalize after (postOps.take 19) V = X
  after_reads_simp

theorem post_v95 : after postOps V (Proc.devRef .tc main_v95) =
    Stage.colsDown (after postOps V (Proc.devRef .tc main_v90)) := by
  rw [keep post_writes 20 (r := main_v90) (by decide +kernel),
    span post_writes 20 23 (by decide) (by decide +kernel)]
  generalize after (postOps.take 20) V = X
  after_reads_simp
  rfl

theorem post_v96 : after postOps V (Proc.devRef .tc main_v96) =
    Stage.colsUp (after postOps V (Proc.devRef .tc main_v91)) := by
  rw [keep post_writes 23 (r := main_v91) (by decide +kernel),
    span post_writes 23 26 (by decide) (by decide +kernel)]
  generalize after (postOps.take 23) V = X
  after_reads_simp
  rfl

theorem post_v98' : after postOps V (Proc.devRef .tc main_v98) =
    subf (F := F) (s := S8x2048x3x3) (φ := .f32) (after postOps V (Proc.devRef .tc main_v94))
      (mulf (after postOps V (Proc.devRef .tc main_v95))
        (after postOps V (Proc.devRef .tc main_v96))) := by
  rw [keep post_writes 26 (r := main_v94) (by decide +kernel),
    keep post_writes 26 (r := main_v95) (by decide +kernel),
    keep post_writes 26 (r := main_v96) (by decide +kernel),
    span post_writes 26 28 (by decide) (by decide +kernel)]
  generalize after (postOps.take 26) V = X
  after_reads_simp

theorem post_v98 : after postOps V (Proc.devRef .tc main_v98) =
    Stage.cofactors (after postOps V (Proc.devRef .tc main_v89)) := by
  rw [post_v98', post_v94, post_v92, post_v93, post_v95, post_v96, post_v90, post_v91]
  rfl

theorem post_v101 : after postOps V (Proc.devRef .tc main_v101) =
    Stage.lengths (after postOps V (Proc.devRef .tc main_v98)) := by
  rw [keep post_writes 28 (r := main_v98) (by decide +kernel),
    span post_writes 28 32 (by decide) (by decide +kernel)]
  generalize after (postOps.take 28) V = X
  after_reads_simp
  rfl

theorem post_v119 : after postOps V (Proc.devRef .tc main_v119) =
    Stage.longest (after postOps V (Proc.devRef .tc main_v98)) (after postOps V (Proc.devRef .tc main_v101)) := by
  rw [keep post_writes 32 (r := main_v98) (by decide +kernel),
    keep post_writes 32 (r := main_v101) (by decide +kernel),
    span post_writes 32 52 (by decide) (by decide +kernel)]
  generalize after (postOps.take 32) V = X
  after_reads_simp
  rfl

theorem post_v127 : after postOps V (Proc.devRef .tc main_v127) =
    Stage.units (after postOps V (Proc.devRef .tc main_v119)) := by
  rw [keep post_writes 52 (r := main_v119) (by decide +kernel),
    span post_writes 52 62 (by decide) (by decide +kernel)]
  generalize after (postOps.take 52) V = X
  after_reads_simp
  rfl

theorem post_v133 : after postOps V (Proc.devRef .tc main_v133) =
    Stage.signs (after postOps V (Proc.devRef .tc main_v12)) (after postOps V (Proc.devRef .tc main_v127)) := by
  rw [keep post_writes 62 (r := main_v12) (by decide +kernel),
    keep post_writes 62 (r := main_v127) (by decide +kernel),
    span post_writes 62 74 (by decide) (by decide +kernel)]
  generalize after (postOps.take 62) V = X
  after_reads_simp
  rfl

theorem post_v137 : after postOps V (Proc.devRef .tc main_v137) =
    Stage.oriented (after postOps V (Proc.devRef .tc main_v127)) (after postOps V (Proc.devRef .tc main_v133)) := by
  rw [keep post_writes 74 (r := main_v127) (by decide +kernel),
    keep post_writes 74 (r := main_v133) (by decide +kernel),
    span post_writes 74 78 (by decide) (by decide +kernel)]
  generalize after (postOps.take 74) V = X
  after_reads_simp
  rfl

theorem post_v139 : after postOps V (Proc.devRef .tc main_v139) =
    Stage.gathered (after postOps V (Proc.devRef .tc main_v137)) (after postOps V (Proc.devRef .tc main_indices)) := by
  rw [keep post_writes 78 (r := main_v137) (by decide +kernel),
    keep post_writes 78 (r := main_indices) (by decide +kernel),
    span post_writes 78 80 (by decide) (by decide +kernel)]
  generalize after (postOps.take 78) V = X
  after_reads_simp
  rfl

theorem post_v145 : after postOps V (Proc.devRef .tc main_v145) =
    Stage.centred (after postOps V (Proc.devRef .tc main_v139)) := by
  rw [keep post_writes 80 (r := main_v139) (by decide +kernel),
    span post_writes 80 88 (by decide) (by decide +kernel)]
  generalize after (postOps.take 80) V = X
  after_reads_simp
  rfl

theorem post_v149 : after postOps V (Proc.devRef .tc main_v149) =
    Stage.flats (after postOps V (Proc.devRef .tc main_v145)) := by
  rw [keep post_writes 88 (r := main_v145) (by decide +kernel),
    span post_writes 88 93 (by decide) (by decide +kernel)]
  generalize after (postOps.take 88) V = X
  after_reads_simp
  rfl

theorem post_v154 : after postOps V (Proc.devRef .tc main_v154) =
    Stage.normed (after postOps V (Proc.devRef .tc main_v149)) := by
  rw [keep post_writes 93 (r := main_v149) (by decide +kernel),
    span post_writes 93 103 (by decide) (by decide +kernel)]
  generalize after (postOps.take 93) V = X
  after_reads_simp
  rfl

end Cert.ReferenceIdeal.Read
-- ==== Proof.RefReads.lean ====
module
public import proofs.«01_k».proof.Proof.RefPre
public import proofs.«01_k».proof.Proof.RefPost

/-! # The reference's buffers across its loop

  The loop steps the estimate of the root and writes nothing else that is read later, so after the loop every other buffer is
  as it was before, and the estimate has taken twenty-two Newton steps. -/

@[expose] public section

set_option maxRecDepth 16384

noncomputable section

open Idealize.ShloMosaic Idealize.ShloMosaic.TcCoe Idealize.ShloMosaic.StableHlo Idealize.SL.Sem

namespace Cert.ReferenceIdeal.Read

open Cert.ReferenceIdeal Cert.ReferenceIdeal.Gen Cert.ReferenceIdeal.Value

variable {F : FTy → Type} [FloatOps F]
variable (m : (ℓ : Loc nD τ sig) → Buf (Elt F) ℓ) (c : Dev nD)

/-- The contents at the loop's entry, after the loop, and at the end. -/
def entry : Valuation τ sig (Elt F) := after preOps (launchContents m c)
def left : Valuation τ sig (Elt F) := after condOps (atK m 22 c)
def final : Valuation τ sig (Elt F) := after postOps (left m c)

theorem entry_eq : entryContents preI m c = entry m c := afterL_eq_after_flatten _ _

theorem final_eq : finalContents condOps preI bodyI postI 22 m c = final m c := afterL_eq_after_flatten _ _

/-- A buffer that neither the loop's condition nor its body writes is as it was at any trip. -/
theorem trips_keep {r : Ref sig .tc} (hc : r ∉ condOps_W) (hb : r ∉ while0Ops0_W) :
    ∀ k, atK m k c (Proc.devRef .tc r) = entry m c (Proc.devRef .tc r)
  | 0 => by rw [← entry_eq]; rfl
  | k + 1 => by
    rw [show atK m (k + 1) c = after while0Ops0 (after condOps (atK m k c)) from rfl,
      after_of_writes_sub _ _ while0Ops0_writes (by simpa using hb), after_of_writes_sub _ _ condOps_writes (by simpa using hc)]
    exact trips_keep hc hb k

/-- So it is at the end, when the operations after the loop do not write it either. -/
theorem final_keeps {r : Ref sig .tc} (hc : r ∉ condOps_W) (hb : r ∉ while0Ops0_W) (hp : r ∉ postRefs) :
    final m c (Proc.devRef .tc r) = entry m c (Proc.devRef .tc r) := by
  unfold final
  rw [keep post_writes 0 (by simpa using hp)]
  show left m c _ = _
  unfold left
  rw [after_of_writes_sub _ _ condOps_writes (by simpa using hc)]
  exact trips_keep m c hc hb 22

/-- One trip takes one Newton step. -/
theorem step_newton (V : Valuation τ sig (Elt F)) :
    step_main_v82_3 V = Stage.newtons (V (Proc.devRef .tc main_v82_0)) (V (Proc.devRef .tc main_v82_3)) := rfl

/-- So `k` trips take `k` of them. -/
theorem steps_newton (V : Valuation τ sig (Elt F)) : ∀ k,
    (STEP^[k] V) (Proc.devRef .tc main_v82_0) = V (Proc.devRef .tc main_v82_0) ∧
    (STEP^[k] V) (Proc.devRef .tc main_v82_3) =
      (Stage.newtons (V (Proc.devRef .tc main_v82_0)))^[k] (V (Proc.devRef .tc main_v82_3))
  | 0 => ⟨rfl, rfl⟩
  | k + 1 => by
    obtain ⟨h0, h3⟩ := steps_newton V k
    rw [Function.iterate_succ_apply', Function.iterate_succ_apply', STEP_main_v82_0, STEP_main_v82_3, step_newton, h0, h3]
    exact ⟨rfl, rfl⟩

/-- The determinant the loop carries is the one computed before it. -/
theorem entry_v82_0 : entry m c (Proc.devRef .tc main_v82_0) = entry m c (Proc.devRef .tc main_v79) := by
  unfold entry
  rw [keep pre_writes 112 (r := main_v79) (by decide +kernel), span pre_writes 112 121 (by decide) (by decide +kernel)]
  generalize after (preOps.take 112) (launchContents m c) = X
  after_reads_simp
  rfl

/-- The root after the loop. -/
theorem final_v82_3 : final m c (Proc.devRef .tc main_v82_3) =
    (Stage.newtons (entry m c (Proc.devRef .tc main_v79)))^[22] Stage.starts := by
  have h := atK_agree m c 22 main_v82_3 (by decide)
  unfold final
  rw [keep post_writes 0 (r := main_v82_3) (by decide +kernel)]
  show left m c _ = _
  unfold left
  rw [after_of_writes_sub _ _ condOps_writes (by decide +kernel), h, (steps_newton _ 22).2, entry_eq, entry_v82_0,
    show entry m c (Proc.devRef .tc main_v82_3) = Stage.starts from pre_v82_3 _]

end Cert.ReferenceIdeal.Read
-- ==== Proof.RefChain.lean ====
module
public import proofs.«01_k».proof.Proof.RefReads

/-! # The reference's stages, one after another

  What each buffer holds at the loop's entry, or at the end, given the buffers before it. -/

@[expose] public section

noncomputable section

open Idealize.ShloMosaic Idealize.ShloMosaic.TcCoe Idealize.ShloMosaic.StableHlo Idealize.SL.Sem

namespace Cert.ReferenceIdeal.Read

open Cert.ReferenceIdeal Cert.ReferenceIdeal.Gen Cert.ReferenceIdeal.Value

variable {F : FTy → Type} [FloatOps F]
variable (m : (ℓ : Loc nD τ sig) → Buf (Elt F) ℓ) (c : Dev nD)

theorem entry_v7_eq : entry m c (Proc.devRef .tc main_v7) =
    Stage.negDist (entry m c (Proc.devRef .tc main_arg0)) := pre_v7 _

theorem entry_indices_eq : entry m c (Proc.devRef .tc main_indices) =
    Stage.chosen (entry m c (Proc.devRef .tc main_v7)) := pre_indices _

theorem entry_v12_eq : entry m c (Proc.devRef .tc main_v12) =
    Stage.offsets (entry m c (Proc.devRef .tc main_arg0)) (entry m c (Proc.devRef .tc main_indices)) := pre_v12 _

theorem entry_v17_eq : entry m c (Proc.devRef .tc main_v17) =
    Stage.dists (entry m c (Proc.devRef .tc main_v12)) := pre_v17 _

theorem entry_v25_eq : entry m c (Proc.devRef .tc main_v25) =
    Stage.weights (entry m c (Proc.devRef .tc main_v17)) := pre_v25 _

theorem entry_v33_eq : entry m c (Proc.devRef .tc main_v33) =
    Stage.covs (entry m c (Proc.devRef .tc main_v25)) (entry m c (Proc.devRef .tc main_v12)) := pre_v33 _

theorem entry_v39_eq : entry m c (Proc.devRef .tc main_v39) =
    Stage.eye := pre_v39 _

theorem entry_v47_eq : entry m c (Proc.devRef .tc main_v47) =
    Stage.thirds (entry m c (Proc.devRef .tc main_v33)) (entry m c (Proc.devRef .tc main_v39)) := pre_v47 _

theorem entry_v54_eq : entry m c (Proc.devRef .tc main_v54) =
    Stage.shifted (entry m c (Proc.devRef .tc main_v33)) (entry m c (Proc.devRef .tc main_v39)) (entry m c (Proc.devRef .tc main_v47)) := pre_v54 _

theorem entry_v65_eq : entry m c (Proc.devRef .tc main_v65) =
    Stage.scaled (entry m c (Proc.devRef .tc main_v54)) := pre_v65 _

theorem entry_v74_eq : entry m c (Proc.devRef .tc main_v74) =
    Stage.cofactors (entry m c (Proc.devRef .tc main_v65)) := pre_v74 _

theorem entry_v79_eq : entry m c (Proc.devRef .tc main_v79) =
    Stage.dets (entry m c (Proc.devRef .tc main_v65)) (entry m c (Proc.devRef .tc main_v74)) := pre_v79 _

theorem final_v89_eq : final m c (Proc.devRef .tc main_v89) =
    Stage.shifted (final m c (Proc.devRef .tc main_v65)) (final m c (Proc.devRef .tc main_v39)) (final m c (Proc.devRef .tc main_v82_3)) := post_v89 _

theorem final_v98_eq : final m c (Proc.devRef .tc main_v98) =
    Stage.cofactors (final m c (Proc.devRef .tc main_v89)) := post_v98 _

theorem final_v101_eq : final m c (Proc.devRef .tc main_v101) =
    Stage.lengths (final m c (Proc.devRef .tc main_v98)) := post_v101 _

theorem final_v119_eq : final m c (Proc.devRef .tc main_v119) =
    Stage.longest (final m c (Proc.devRef .tc main_v98)) (final m c (Proc.devRef .tc main_v101)) := post_v119 _

theorem final_v127_eq : final m c (Proc.devRef .tc main_v127) =
    Stage.units (final m c (Proc.devRef .tc main_v119)) := post_v127 _

theorem final_v133_eq : final m c (Proc.devRef .tc main_v133) =
    Stage.signs (final m c (Proc.devRef .tc main_v12)) (final m c (Proc.devRef .tc main_v127)) := post_v133 _

theorem final_v137_eq : final m c (Proc.devRef .tc main_v137) =
    Stage.oriented (final m c (Proc.devRef .tc main_v127)) (final m c (Proc.devRef .tc main_v133)) := post_v137 _

theorem final_v139_eq : final m c (Proc.devRef .tc main_v139) =
    Stage.gathered (final m c (Proc.devRef .tc main_v137)) (final m c (Proc.devRef .tc main_indices)) := post_v139 _

theorem final_v145_eq : final m c (Proc.devRef .tc main_v145) =
    Stage.centred (final m c (Proc.devRef .tc main_v139)) := post_v145 _

theorem final_v149_eq : final m c (Proc.devRef .tc main_v149) =
    Stage.flats (final m c (Proc.devRef .tc main_v145)) := post_v149 _

theorem final_v154_eq : final m c (Proc.devRef .tc main_v154) =
    Stage.normed (final m c (Proc.devRef .tc main_v149)) := post_v154 _

end Cert.ReferenceIdeal.Read
-- ==== Proof.RefEig.lean ====
module
public import proofs.«01_k».proof.Proof.RefStages
public import proofs.«01_k».proof.Proof.Newton
public import proofs.«01_k».proof.Proof.Coe
public import Idealize.ShloMosaic.Lib.Pipeline.Value
public import Idealize.ShloMosaic.Lib.Tactic
public import Idealize.ShloMosaic.Lib.Pointwise
public import Mathlib.Tactic.FinCases

/-! # The reference's eigenvector

  On covariance matrices of real entries, the reference's stages from the covariance to the unit eigenvector hold, at each
  point, the functions of the specification. -/

@[expose] public section

set_option maxRecDepth 16384

noncomputable section

open Idealize.ShloMosaic Idealize.ShloMosaic.TcCoe Idealize.SL.Sem Idealize.ShloMosaic.Pointwise
open scoped BigOperators

namespace Cert.ReferenceIdeal.Stage

open Cert.ReferenceIdeal Cert.ReferenceIdeal.Gen Cert.Spec

/-- An array of matrices holds the real matrix `m` at point `i` of cloud `b`. -/
def Holds (x : FVec Ideal S8x2048x3x3 .f32) (b : Fin 8) (i : Fin 2048) (m : Mat) : Prop :=
  ∀ a a', x (ix4 b i a a') = ((m a a' : ℝ) : EReal)

variable {x y : FVec Ideal S8x2048x3x3 .f32} {b : Fin 8} {i : Fin 2048} {m : Mat}

theorem eye_at (a a' : Fin 3) : eye (F := Ideal) (ix2 a a') = ((if a = a' then 1 else 0 : ℝ) : EReal) := by
  pointwise [eye]
  show (((IntOp.cmpi CmpIPredicate.eq (IntOp.addi (BitVec.ofNat 32 a) 0#32) (BitVec.ofNat 32 a')).toNat : ℝ) : EReal) = _
  fin_cases a <;> fin_cases a' <;> norm_num <;> decide

theorem thirds_at (h : Holds x b i m) : thirds x (eye (F := Ideal)) (ix2 b i) = ((third m : ℝ) : EReal) := by
  pointwise [thirds]
  rw [show Ideal.ofBits FTy.f32 1077936128#32 = ((3 : ℝ) : EReal) from ofBits_three]
  simp only [h _ _, eye_at, ← EReal.coe_mul, coe_sum]
  rw [div_coe' _ (by norm_num)]
  congr 2
  simp

theorem shifted_at (h : Holds x b i m) {t : FVec Ideal S8x2048 .f32} {s : ℝ} (ht : t (ix2 b i) = (s : EReal)) :
    Holds (Stage.shifted x (eye (F := Ideal)) t) b i (Spec.shifted m s) := by
  intro a a'
  pointwise [Stage.shifted]
  rw [h, ht, eye_at, ← EReal.coe_mul, ← EReal.coe_sub]
  simp [Spec.shifted]

theorem scaled_at (h : Holds x b i (traceless m)) : Holds (Stage.scaled x) b i (Spec.scaled m) := by
  intro a a'
  pointwise [Stage.scaled]
  rw [show Ideal.ofBits FTy.f32 1086324736#32 = ((6 : ℝ) : EReal) from ofBits_six,
    show Ideal.ofBits FTy.f32 228737632#32 = ((tiny : ℝ) : EReal) from ofBits_tiny]
  simp only [h _ _, ← EReal.coe_mul, coe_sum]
  rw [div_coe' _ (by norm_num), sqrt_coe' (by have := norm2_nonneg (traceless m); unfold norm2 at this; positivity),
    ← EReal.coe_add]
  exact div_coe' _ (scale_pos m).ne'

theorem rowsUp_at (h : Holds x b i m) : Holds (rowsUp x) b i fun a a' => m (a + 1) a' := by
  intro a a'
  pointwise [rowsUp]
  fin_cases a <;> simp [h _ _]

theorem rowsDown_at (h : Holds x b i m) : Holds (rowsDown x) b i fun a a' => m (a + 2) a' := by
  intro a a'
  pointwise [rowsDown]
  fin_cases a <;> simp [h _ _]

theorem colsUp_at (h : Holds x b i m) : Holds (colsUp x) b i fun a a' => m a (a' + 1) := by
  intro a a'
  pointwise [colsUp]
  fin_cases a' <;> simp [h _ _]

theorem colsDown_at (h : Holds x b i m) : Holds (colsDown x) b i fun a a' => m a (a' + 2) := by
  intro a a'
  pointwise [colsDown]
  fin_cases a' <;> simp [h _ _]

theorem cofactors_at (h : Holds x b i m) : Holds (cofactors x) b i (cofactor m) := by
  intro a a'
  pointwise [cofactors]
  rw [colsUp_at (rowsUp_at h) a a', colsDown_at (rowsDown_at h) a a', colsDown_at (rowsUp_at h) a a', colsUp_at (rowsDown_at h) a a']
  simp only [← EReal.coe_mul, ← EReal.coe_sub]
  rfl

theorem dets_at (h : Holds x b i m) (hk : Holds y b i (cofactor m)) : dets x y (ix2 b i) = ((det m : ℝ) : EReal) := by
  pointwise [dets]
  rw [show Ideal.ofBits FTy.f32 1077936128#32 = ((3 : ℝ) : EReal) from ofBits_three]
  simp only [h _ _, hk _ _, ← EReal.coe_mul, coe_sum]
  exact div_coe' _ (by norm_num)

theorem lengths_at (h : Holds x b i m) (a : Fin 3) : lengths x (ix4 b i a 0) = ((len2 (m a) : ℝ) : EReal) := by
  pointwise [lengths]
  simp only [h _ _, ← EReal.coe_mul, coe_sum]
  rfl

theorem longest_at (h : Holds x b i m) {n : FVec Ideal S8x2048x3x1 .f32} (hn : ∀ a, n (ix4 b i a 0) = ((len2 (m a) : ℝ) : EReal))
    (a : Fin 3) : Stage.longest x n (ix3 b i a) = ((Spec.longest m a : ℝ) : EReal) := by
  pointwise [Stage.longest]
  simp only [hn, h _ _, EReal.coe_le_coe_iff]
  unfold Spec.longest
  by_cases h1 : len2 (m 1) ≤ len2 (m 0) <;> by_cases h2 : len2 (m 2) ≤ len2 (m 0) <;> by_cases h3 : len2 (m 2) ≤ len2 (m 1) <;>
    simp [h1, h2, h3, Scalar.select, IntOp.andi]

theorem units_at {x : FVec Ideal S8x2048x3 .f32} {e : Fin 3 → ℝ} (h : ∀ a, x (ix3 b i a) = ((e a : ℝ) : EReal)) (a : Fin 3) :
    units x (ix3 b i a) = ((unit e a : ℝ) : EReal) := by
  pointwise [units]
  rw [show Ideal.ofBits FTy.f32 228737632#32 = ((tiny : ℝ) : EReal) from ofBits_tiny]
  simp only [h, ← EReal.coe_mul, coe_sum, ← EReal.coe_add]
  rw [show ∑ k, e k * e k = len2 e from rfl, rsqrt_coe' (len2_add_pos e), ← EReal.coe_mul]
  rfl

theorem newtons_at {d t : FVec Ideal S8x2048 .f32} {p s : ℝ} (hd : d (ix2 b i) = (p : EReal)) (ht : t (ix2 b i) = (s : EReal))
    (hs : 3 * s * s - 3 ≠ 0) : newtons d t (ix2 b i) = ((newton p s : ℝ) : EReal) := by
  pointwise [newtons]
  rw [hd, ht, show Ideal.ofBits FTy.f32 1077936128#32 = ((3 : ℝ) : EReal) from ofBits_three]
  simp only [← EReal.coe_mul, ← EReal.coe_sub]
  rw [div_coe' _ hs, ← EReal.coe_sub]
  rfl

/-- The root after twenty-two steps. -/
theorem root_at {d : FVec Ideal S8x2048 .f32} {p : ℝ} (hd : d (ix2 b i) = (p : EReal)) (hp : p ≤ 2) :
    ((newtons d)^[22] (starts (F := Ideal))) (ix2 b i) = ((root p : ℝ) : EReal) := by
  have hk : ∀ k ≤ 22, ((newtons d)^[k] (starts (F := Ideal))) (ix2 b i) = (((newton p)^[k] start : ℝ) : EReal) := by
    intro k
    induction k with
    | zero =>
      intro _
      simp only [Function.iterate_zero_apply]
      pointwise [starts]
      exact ofBits_start
    | succ k ih =>
      intro hk
      have hs := slope_ge hp (k := k) (by omega)
      rw [Function.iterate_succ_apply', Function.iterate_succ_apply']
      exact newtons_at hd (ih (by omega)) (lt_of_lt_of_le (by positivity) hs).ne'
  exact hk 22 le_rfl

end Cert.ReferenceIdeal.Stage
-- ==== Proof.TopK.lean ====
module
public import proofs.«01_k».proof.Proof.Nearest
public import Idealize.ShloMosaic.Lib.SortFacts
public import Idealize.ShloMosaic.PureOps.Ideal
public import Mathlib.Data.EReal.Basic

/-! # What a top-k selection holds

  The selection of the greatest entries of a line is the head of the line sorted: entry `k` comes from position
  `rank k` of the line, the positions are all different, and the entries come out in decreasing order. -/

@[expose] public section

noncomputable section

namespace Cert.Spec

open Idealize.ShloMosaic

/-- The order the selection sorts by: greater first. -/
def greater (l r : EReal) : BitVec 1 := FloatOps.cmpfTotal (F := Ideal) (φ := .f32) .gt l r

theorem greater_eq_one (l r : EReal) : greater l r = 1#1 ↔ r < l := by
  unfold greater
  show BitVec.ofBool (decide (r < l)) = 1#1 ↔ _
  by_cases h : r < l <;> simp [h]

/-- The position of a line's `k`-th greatest entry. -/
def rank {n : ℕ} (x : Fin n → EReal) (k : Fin n) : Fin n := sortedFrom (fun a b => greater (x a) (x b) == 1#1) k

theorem rank_bijective {n : ℕ} (x : Fin n → EReal) : Function.Bijective (rank x) :=
  ⟨sortedFrom_injective _, sortedFrom_surjective _⟩

/-- Later entries are no greater. -/
theorem rank_antitone {n : ℕ} (x : Fin n → EReal) {i j : Fin n} (h : i ≤ j) : x (rank x j) ≤ x (rank x i) := by
  rcases h.eq_or_lt with rfl | h
  · exact le_rfl
  · have := sortedFrom_noInversion (fun a b => greater (x a) (x b) == 1#1) (fun a b => greater (x a) (x b) == 1#1)
      (fun a b hab => by simp [greater_eq_one] at hab ⊢; exact hab.le)
      (fun a b hab => hab)
      (fun a b c hab hbc => by simp [greater_eq_one] at hab hbc ⊢; exact hab.trans hbc) i j h
    simp [greater_eq_one] at this
    exact this

/-- The position of the `k`-th of the seventeen greatest entries. -/
def rank17 (x : Fin 2048 → EReal) (k : Fin 17) : Fin 2048 := rank x (k.castLE (by decide))

/-- When the seventeen greatest negated distances are strictly decreasing, their positions list the nearest points. -/
theorem nearest_rank {d : Fin 2048 → ℝ} {x : Fin 2048 → EReal} (hx : ∀ m, x m = -(d m : EReal))
    (h : ∀ k : Fin 16, x (rank17 x k.succ) < x (rank17 x k.castSucc)) : Nearest d (rank17 x) where
  inc := Fin.strictMono_iff_lt_succ.mpr fun k => by
    have := h k
    rw [hx, hx, ← EReal.coe_neg, ← EReal.coe_neg, EReal.coe_lt_coe_iff] at this
    exact neg_lt_neg_iff.mp this
  far m hm := by
    obtain ⟨k, rfl⟩ := (rank_bijective x).2 m
    have hk : (16 : Fin 17).castLE (by decide) ≤ k := by
      by_contra hlt
      have hlt : k.val < 16 := Nat.lt_of_not_le fun h16 => hlt (Fin.le_def.mpr h16)
      exact hm ⟨k.val, by omega⟩ rfl
    have := rank_antitone x hk
    rw [hx, hx, ← EReal.coe_neg, ← EReal.coe_neg, EReal.coe_le_coe_iff] at this
    exact neg_le_neg_iff.mp this

end Cert.Spec
-- ==== Proof.Sorted.lean ====
module
public import proofs.«01_k».proof.Proof.TopK
public import Idealize.ShloMosaic.Lib.Pipeline.Value
public import Idealize.ShloMosaic.Lib.Pointwise

/-! # The selection from an array of lines

  The sort along the last axis, and the head of it that a selection keeps, at an index: the line's entry at its rank. -/

@[expose] public section

set_option maxRecDepth 16384

noncomputable section

open Idealize.ShloMosaic Idealize.ShloMosaic.Pointwise

namespace Cert.Spec

/-- An array of 8 by 2048 lines. -/
abbrev Lines : Shape := ⟨3, ![8, 2048, 2048]⟩

/-- The line of point `i` in cloud `b`. -/
def line (x : Lines.Idx → EReal) (b : Fin 8) (i : Fin 2048) : Fin 2048 → EReal := fun m => x (ix3 b i m)

theorem along_last (b : Fin 8) (i k m : Fin 2048) :
    (ix3 b i k : Lines.Idx).along 2 m = ix3 b i m := by
  funext q
  match q with
  | ⟨0, _⟩ => rfl
  | ⟨1, _⟩ => rfl
  | ⟨2, _⟩ => rfl

/-- The sorted arrays at an index are the given ones at the rank. -/
theorem sorted_at {β : Type} (x : Lines.Idx → EReal) (y : Lines.Idx → β) (b : Fin 8) (i k : Fin 2048) :
    (Host.sort2 Lines 2 (fun l r => FloatOps.cmpfTotal (F := Ideal) (φ := .f32) .gt l.1 r.1) x y).1 (ix3 b i k)
      = x (ix3 b i (rank (line x b i) k))
    ∧ (Host.sort2 Lines 2 (fun l r => FloatOps.cmpfTotal (F := Ideal) (φ := .f32) .gt l.1 r.1) x y).2 (ix3 b i k)
      = y (ix3 b i (rank (line x b i) k)) := by
  have e : (fun a c : Fin 2048 => FloatOps.cmpfTotal (F := Ideal) (φ := .f32) .gt (x ((ix3 b i k : Lines.Idx).along 2 a))
      (x ((ix3 b i k : Lines.Idx).along 2 c)) == 1#1) = fun a c => greater (line x b i a) (line x b i c) == 1#1 := by
    funext a c
    rw [along_last, along_last]
    rfl
  have hr : (ix3 b i k : Lines.Idx).along 2 (sortedFrom (fun a c : Fin 2048 => FloatOps.cmpfTotal (F := Ideal) (φ := .f32) .gt
      (x ((ix3 b i k : Lines.Idx).along 2 a)) (x ((ix3 b i k : Lines.Idx).along 2 c)) == 1#1) k)
      = ix3 b i (rank (line x b i) k) := by
    rw [e]
    exact along_last b i k _
  unfold Host.sort2
  rw [dif_pos (show 2 < Lines.rank by decide)]
  exact ⟨congrArg x hr, congrArg y hr⟩

/-- The positions a selection of the first `n` gives. -/
theorem topK_position {n : ℕ} (hn : n ≤ 2048) (x : Lines.Idx → EReal) (hs : Lines.Slices (fun _ => 0) ⟨3, ![8, 2048, n]⟩)
    (b : Fin 8) (i : Fin 2048) (k : Fin n) :
    (Host.topK ⟨3, ![8, 2048, n]⟩ 2 (FloatOps.cmpfTotal (F := Ideal) (φ := .f32) .gt) x hs).2 (ix3 b i k)
      = BitVec.ofNat 32 (rank (line x b i) (k.castLE hn)).val := by
  unfold Host.topK
  dsimp only
  rw [extractStridedSlice_apply _ _ _ _ (ix3 b i (k.castLE hn)) fun q => by
    match q with
    | ⟨0, _⟩ => exact (Nat.zero_add _).symm
    | ⟨1, _⟩ => exact (Nat.zero_add _).symm
    | ⟨2, _⟩ => exact (Nat.zero_add _).symm]
  rw [(sorted_at x _ b i (k.castLE hn)).2]
  rfl

/-- The values it gives. -/
theorem topK_value {n : ℕ} (hn : n ≤ 2048) (x : Lines.Idx → EReal) (hs : Lines.Slices (fun _ => 0) ⟨3, ![8, 2048, n]⟩)
    (b : Fin 8) (i : Fin 2048) (k : Fin n) :
    (Host.topK ⟨3, ![8, 2048, n]⟩ 2 (FloatOps.cmpfTotal (F := Ideal) (φ := .f32) .gt) x hs).1 (ix3 b i k)
      = line x b i (rank (line x b i) (k.castLE hn)) := by
  unfold Host.topK
  dsimp only
  rw [extractStridedSlice_apply _ _ _ _ (ix3 b i (k.castLE hn)) fun q => by
    match q with
    | ⟨0, _⟩ => exact (Nat.zero_add _).symm
    | ⟨1, _⟩ => exact (Nat.zero_add _).symm
    | ⟨2, _⟩ => exact (Nat.zero_add _).symm]
  rw [(sorted_at x _ b i (k.castLE hn)).1]
  rfl

end Cert.Spec
-- ==== Proof.RefNear.lean ====
module
public import proofs.«01_k».proof.Proof.RefStages
public import proofs.«01_k».proof.Proof.Sorted
public import proofs.«01_k».proof.Proof.Coe
public import Idealize.ShloMosaic.Lib.Pipeline.Value
public import Idealize.ShloMosaic.Lib.Tactic
public import Idealize.ShloMosaic.Lib.Pointwise

/-! # The reference's neighbours and covariance

  On clouds of real points, the reference's stages up to the weighted covariance hold the functions of the specification. -/

@[expose] public section

set_option maxRecDepth 16384

noncomputable section

open Idealize.ShloMosaic Idealize.ShloMosaic.TcCoe Idealize.SL.Sem Idealize.ShloMosaic.Pointwise
open scoped BigOperators

namespace Cert.ReferenceIdeal.Stage

open Cert.ReferenceIdeal Cert.ReferenceIdeal.Gen Cert.Spec

variable {b : Fin 8} {i : Fin 2048}

theorem negDist_at {x : FVec Ideal S8x2048x3 .f32} {v : Cloud 2048} (h : ∀ m a, x (ix3 b m a) = ((v m a : ℝ) : EReal)) (m : Fin 2048) :
    negDist x (ix3 b i m) = -((dist2 v i m : ℝ) : EReal) := by
  pointwise [negDist]
  simp only [h, ← EReal.coe_mul, ← EReal.coe_sub, coe_sum]
  congr 2
  exact Finset.sum_congr rfl fun a _ => by unfold offset; ring

theorem chosen_at (x : FVec Ideal S8x2048x2048 .f32) (k : Fin 16) :
    chosen x (ix3 b i k) = BitVec.ofNat 32 (rank17 (line x b i) k.castSucc).val :=
  topK_position (n := 16) (by decide) x sliceFits_S8x2048x2048_S8x2048x16 b i k

/-- Where the gather reads its row number. -/
theorem gather_row_at (k : Fin 16) (a : Fin 3) (h) :
    gather_S8x2048x3_S8x2048x16x1_S8x2048x16x3_3_1_0_0_1_3_113.siIdx (ix4 b i k a) ⟨0, h⟩ = ix4 b i k 0 := by
  funext q
  match q with
  | ⟨0, _⟩ => rfl
  | ⟨1, _⟩ => rfl
  | ⟨2, _⟩ => rfl
  | ⟨3, _⟩ => rfl

/-- A small number's word, read signed. -/
theorem ofNat_toNat (p : Fin 2048) : (BitVec.ofNat 32 p.val).toInt.toNat = p.val := by
  have := p.isLt
  rw [BitVec.toInt_eq_toNat_of_lt (by simp only [BitVec.toNat_ofNat]; omega)]
  simp only [BitVec.toNat_ofNat, Int.toNat_natCast]
  omega

/-- The gather takes the row its index array names. -/
theorem gathered_at (x : FVec Ideal S8x2048x3 .f32) (ind : IVec S8x2048x16 32) (k : Fin 16) (a : Fin 3) (p : Fin 2048)
    (hp : ind (ix3 b i k) = BitVec.ofNat 32 p.val) : gathered x ind (ix4 b i k a) = x (ix3 b p a) := by
  have e : broadcastInDim S8x2048x16x1 ![0, 1, 2] bcast_S8x2048x16_S8x2048x16x1_0_1_2 ind (ix4 b i k 0) = BitVec.ofNat 32 p.val := by
    pointwise []
    exact hp
  unfold gathered Host.gather
  congr 1
  funext q
  apply Fin.ext
  match q with
  | ⟨0, _⟩ => exact Nat.zero_add b.val
  | ⟨1, _⟩ =>
    show min ((broadcastInDim S8x2048x16x1 ![0, 1, 2] bcast_S8x2048x16_S8x2048x16x1_0_1_2 ind)
      (gather_S8x2048x3_S8x2048x16x1_S8x2048x16x3_3_1_0_0_1_3_113.siIdx (ix4 b i k a) ⟨0, by decide⟩)).toInt.toNat 2047 + 0 + 0 = p.val
    rw [gather_row_at, e, ofNat_toNat]
    have := p.isLt
    omega
  | ⟨2, _⟩ => exact Nat.zero_add a.val

theorem offsets_at {x : FVec Ideal S8x2048x3 .f32} {v : Cloud 2048} (h : ∀ m a, x (ix3 b m a) = ((v m a : ℝ) : EReal))
    {ind : IVec S8x2048x16 32} {k : Fin 16} {p : Fin 2048} (hp : ind (ix3 b i k) = BitVec.ofNat 32 p.val) (a : Fin 3) :
    offsets x ind (ix4 b i k a) = ((offset v i p a : ℝ) : EReal) := by
  have e : offsets x ind (ix4 b i k a) = gathered x ind (ix4 b i k a) - x (ix3 b i a) := by
    unfold offsets gathered
    pointwise []
  rw [e, gathered_at x ind k a p hp, h, h, ← EReal.coe_sub]
  rfl

theorem dists_at {o : FVec Ideal S8x2048x16x3 .f32} {k : Fin 16} {w : Fin 3 → ℝ} (h : ∀ a, o (ix4 b i k a) = ((w a : ℝ) : EReal)) :
    dists o (ix3 b i k) = ((dist (∑ a, w a * w a) : ℝ) : EReal) := by
  pointwise [dists]
  simp only [h, ← EReal.coe_mul, coe_sum]
  rw [show Ideal.ofBits FTy.f32 730643660#32 = ((distFloor : ℝ) : EReal) from ofBits_distFloor, ← EReal.coe_add,
    sqrt_coe' (add_nonneg (Finset.sum_nonneg fun a _ => mul_self_nonneg _) distFloor_pos.le)]
  rfl

theorem weights_at {r : FVec Ideal S8x2048x16 .f32} {d : Fin 16 → ℝ} {top : ℝ} (h : ∀ k, r (ix3 b i k) = ((d k : ℝ) : EReal))
    (ht : ∀ k, d k ≤ top) (he : ∃ k, d k = top) (k : Fin 16) :
    weights r (ix3 b i k) = ((max (top - d k) 0 + weightFloor : ℝ) : EReal) := by
  pointwise [weights]
  have hm : Finset.fold max (Ideal.ofBits FTy.f32 4286578688#32) (fun x => r (ix3 b i x)) Finset.univ = ((top : ℝ) : EReal) := by
    rw [show Ideal.ofBits FTy.f32 4286578688#32 = ⊥ from ofBits_bot]
    apply le_antisymm
    · rw [Finset.fold_max_le]
      exact ⟨bot_le, fun x _ => by rw [h]; exact EReal.coe_le_coe_iff.mpr (ht x)⟩
    · obtain ⟨x, hx⟩ := he
      rw [Finset.le_fold_max]
      exact .inr ⟨x, Finset.mem_univ _, by rw [h, hx]⟩
  rw [hm, h, show Ideal.ofBits FTy.f32 897988541#32 = ((weightFloor : ℝ) : EReal) from ofBits_weightFloor, ← EReal.coe_sub,
    ← EReal.coe_zero, coe_max, ← EReal.coe_add]

theorem covs_at {w : FVec Ideal S8x2048x16 .f32} {o : FVec Ideal S8x2048x16x3 .f32} {u : Fin 16 → ℝ} {f : Fin 16 → Fin 3 → ℝ}
    (hw : ∀ k, w (ix3 b i k) = ((u k : ℝ) : EReal)) (ho : ∀ k a, o (ix4 b i k a) = ((f k a : ℝ) : EReal)) (hu : ∑ k, u k ≠ 0)
    (a a' : Fin 3) : covs w o (ix4 b i a a') = (((∑ k, u k * f k a * f k a') / ∑ k, u k : ℝ) : EReal) := by
  pointwise [covs]
  simp only [hw, ho, ← EReal.coe_mul, coe_sum]
  exact div_coe' _ hu

end Cert.ReferenceIdeal.Stage
-- ==== Proof.RefNormals.lean ====
module
public import proofs.«01_k».proof.Proof.RefStages
public import proofs.«01_k».proof.Proof.Coe
public import Idealize.ShloMosaic.Lib.Pipeline.Value
public import Idealize.ShloMosaic.Lib.Tactic
public import Idealize.ShloMosaic.Lib.Pointwise
public import Mathlib.Logic.Equiv.Fin.Basic

/-! # The reference's normals and their covariance

  From unit eigenvectors and offsets of real entries, the reference's stages up to its result. -/

@[expose] public section

set_option maxRecDepth 16384

noncomputable section

open Idealize.ShloMosaic Idealize.ShloMosaic.TcCoe Idealize.SL.Sem Idealize.ShloMosaic.Pointwise
open scoped BigOperators

namespace Cert.ReferenceIdeal.Stage

open Cert.ReferenceIdeal Cert.ReferenceIdeal.Gen Cert.Spec

variable {b : Fin 8} {i : Fin 2048}

theorem signs_at {o : FVec Ideal S8x2048x16x3 .f32} {x : FVec Ideal S8x2048x3 .f32} {f : Fin 16 → Fin 3 → ℝ} {e : Fin 3 → ℝ}
    (ho : ∀ k a, o (ix4 b i k a) = ((f k a : ℝ) : EReal)) (hx : ∀ a, x (ix3 b i a) = ((e a : ℝ) : EReal)) :
    signs o x (ix2 b i) = ((sgn (∑ k, ∑ a, f k a * e a) : ℝ) : EReal) := by
  pointwise [signs]
  simp only [ho, hx, ← EReal.coe_mul, coe_sum]
  exact sign_select _

theorem oriented_at {x : FVec Ideal S8x2048x3 .f32} {t : FVec Ideal S8x2048 .f32} {e : Fin 3 → ℝ} {s : ℝ}
    (hx : ∀ a, x (ix3 b i a) = ((e a : ℝ) : EReal)) (ht : t (ix2 b i) = (s : EReal)) (a : Fin 3) :
    oriented x t (ix3 b i a) = ((-s * e a : ℝ) : EReal) := by
  pointwise [oriented]
  rw [hx, ht, ← EReal.coe_neg, ← EReal.coe_mul, mul_comm]

theorem centred_at {g : FVec Ideal S8x2048x16x3 .f32} {f : Fin 16 → Fin 3 → ℝ}
    (h : ∀ k a, g (ix4 b i k a) = ((f k a : ℝ) : EReal)) (k : Fin 16) (a : Fin 3) :
    centred g (ix4 b i k a) = ((f k a - (∑ j, f j a) / 16 : ℝ) : EReal) := by
  pointwise [centred]
  rw [show Ideal.ofBits FTy.f32 1098907648#32 = ((16 : ℝ) : EReal) from ofBits_sixteen]
  simp only [h, coe_sum]
  rw [div_coe' _ (by norm_num), ← EReal.coe_sub]

/-- The place of entry `(a, a')` among the nine. -/
def flat (a a' : Fin 3) : Fin 9 := ⟨3 * a.val + a'.val, by omega⟩

theorem flats_at {g : FVec Ideal S8x2048x16x3 .f32} {f : Fin 16 → Fin 3 → ℝ}
    (h : ∀ k a, g (ix4 b i k a) = ((f k a : ℝ) : EReal)) (a a' : Fin 3) :
    flats g (ix3 b i (flat a a')) = (((∑ k, f k a * f k a') / 16 : ℝ) : EReal) := by
  pointwise [flats]
  rw [show Ideal.ofBits FTy.f32 1098907648#32 = ((16 : ℝ) : EReal) from ofBits_sixteen,
    show (⟨(flat a a').val / 3, by omega⟩ : Fin 3) = a from Fin.ext (by show (3 * a.val + a'.val) / 3 = a.val; omega),
    show (⟨(flat a a').val % 3, by omega⟩ : Fin 3) = a' from Fin.ext (by show (3 * a.val + a'.val) % 3 = a'.val; omega)]
  simp only [h, ← EReal.coe_mul, coe_sum]
  exact div_coe' _ (by norm_num)

/-- A sum over the nine places is a sum over rows and columns. -/
theorem sum_flat {β : Type} [AddCommMonoid β] (f : Fin 9 → β) : ∑ j, f j = ∑ a, ∑ a', f (flat a a') := by
  rw [← Equiv.sum_comp (finProdFinEquiv (m := 3) (n := 3)) f, Fintype.sum_prod_type]
  exact Finset.sum_congr rfl fun a _ => Finset.sum_congr rfl fun a' _ => congrArg f (Fin.ext (Nat.add_comm _ _))

theorem normed_at {x : FVec Ideal S8x2048x9 .f32} {c : Mat} (h : ∀ a a', x (ix3 b i (flat a a')) = ((c a a' : ℝ) : EReal))
    (a a' : Fin 3) : normed x (ix3 b i (flat a a')) = ((c a a' : ℝ) : EReal) * Ideal.rsqrt ((norm2 c : ℝ) : EReal) := by
  pointwise [normed]
  rw [sum_flat]
  simp only [h, ← EReal.coe_mul, coe_sum]
  congr 1
  exact one_div_sqrt (norm2_nonneg c)

end Cert.ReferenceIdeal.Stage
-- ==== Proof.RefValue.lean ====
module
public import proofs.«01_k».proof.Proof.RefChain
public import proofs.«01_k».proof.Proof.RefEig
public import proofs.«01_k».proof.Proof.RefNear
public import proofs.«01_k».proof.Proof.RefNormals
public import proofs.«01_k».proof.Proof.Result

/-! # What the reference computes

  The stages chained: at the end the result buffer holds the normalised covariance of the neighbours' normals, with the
  neighbours its own sorted selection lists. -/

@[expose] public section

noncomputable section

open Idealize.ShloMosaic Idealize.ShloMosaic.TcCoe

namespace Cert.ReferenceIdeal.Read

open Cert.ReferenceIdeal Cert.ReferenceIdeal.Gen Cert.ReferenceIdeal.Value Cert.Spec Cert.ReferenceIdeal.Stage

variable (m : (ℓ : Loc nD τ sig) → Buf (Elt Ideal) ℓ) (c : Dev nD)

/-- The argument, and the seventeen candidates the sorted selection lists for each point. -/
def cloud : FVec Ideal S8x2048x3 .f32 := m ((c.tc : Thread nD τ).loc main_arg0)
def listed (b : Fin 8) (i : Fin 2048) : Fin 17 → Fin 2048 := rank17 (line (negDist (cloud m c)) b i)

theorem entry_arg : entry m c (Proc.devRef .tc main_arg0) = cloud m c := by
  unfold entry
  rw [keep pre_writes 0 (r := main_arg0) (by decide +kernel)]
  rfl

theorem entry_indices (b : Fin 8) (i : Fin 2048) (k : Fin 16) :
    (entry m c (Proc.devRef .tc main_indices) : IVec S8x2048x16 32) (ix3 b i k) = BitVec.ofNat 32 (listed m c b i k.castSucc).val := by
  rw [entry_indices_eq,
    entry_v7_eq, entry_arg]
  exact chosen_at _ k

section Value

variable {m c} {v : Fin 8 → Cloud 2048} (hv : ∀ b i a, cloud m c (ix3 b i a) = ((v b i a : ℝ) : EReal))
variable (hn : ∀ b i, Nearest (dist2 (v b) i) (listed m c b i)) (b : Fin 8) (i : Fin 2048)
include hv

theorem entry_offsets (k : Fin 16) (a : Fin 3) :
    (entry m c (Proc.devRef .tc main_v12) : FVec Ideal S8x2048x16x3 .f32) (ix4 b i k a)
      = ((offset (v b) i (listed m c b i k.castSucc) a : ℝ) : EReal) := by
  rw [entry_v12_eq, entry_arg]
  exact offsets_at (hv b) (entry_indices m c b i k) a

theorem entry_dists (k : Fin 16) :
    (entry m c (Proc.devRef .tc main_v17) : FVec Ideal S8x2048x16 .f32) (ix3 b i k)
      = ((dist (dist2 (v b) i (listed m c b i k.castSucc)) : ℝ) : EReal) := by
  rw [entry_v17_eq]
  exact dists_at (entry_offsets hv b i k)

include hn

/-- The list reaches its greatest distance at its sixteenth place. -/
theorem entry_weights (k : Fin 16) :
    (entry m c (Proc.devRef .tc main_v25) : FVec Ideal S8x2048x16 .f32) (ix3 b i k)
      = ((weight (dist2 (v b) i (listed m c b i 15)) (dist2 (v b) i (listed m c b i k.castSucc)) : ℝ) : EReal) := by
  rw [entry_v25_eq]
  refine weights_at (entry_dists hv b i) (fun j => ?_) ⟨15, rfl⟩ k
  exact Real.sqrt_le_sqrt (add_le_add_left ((hn b i).inc.monotone (Fin.le_def.mpr (Nat.le_of_lt_succ j.isLt))) _)

/-- The weighted covariance of the neighbourhood of point `i`. -/
abbrev covAt (v : Fin 8 → Cloud 2048) (m : (ℓ : Loc nD τ sig) → Buf (Elt Ideal) ℓ) (c : Dev nD) (b : Fin 8) (i : Fin 2048) : Mat :=
  cov (v b) (nbhd (v b) (listed m c b) i) (dist2 (v b) i (listed m c b i 15)) i

theorem entry_covs : Holds (entry m c (Proc.devRef .tc main_v33)) b i (covAt v m c b i) := by
  intro a a'
  rw [entry_v33_eq,
    covs_at (entry_weights hv hn b i) (entry_offsets hv b i)
      (Finset.sum_pos (fun k _ => weight_pos _ _) ⟨0, Finset.mem_univ _⟩).ne' a a']
  show _ = ((cov _ _ _ _ _ _ : ℝ) : EReal)
  unfold cov nbhd
  rw [(hn b i).sum_near, (hn b i).sum_near]

theorem entry_traceless : Holds (entry m c (Proc.devRef .tc main_v54)) b i (traceless (covAt v m c b i)) := by
  have h := entry_covs hv hn b i
  rw [entry_v54_eq,
    entry_v47_eq,
    entry_v39_eq]
  exact shifted_at h (thirds_at h)

theorem entry_scaled : Holds (entry m c (Proc.devRef .tc main_v65)) b i (Spec.scaled (covAt v m c b i)) := by
  rw [entry_v65_eq]
  exact scaled_at (entry_traceless hv hn b i)

theorem entry_det : (entry m c (Proc.devRef .tc main_v79) : FVec Ideal S8x2048 .f32) (ix2 b i)
    = ((det (Spec.scaled (covAt v m c b i)) : ℝ) : EReal) := by
  rw [entry_v79_eq,
    entry_v74_eq]
  exact dets_at (entry_scaled hv hn b i) (cofactors_at (entry_scaled hv hn b i))

/-- After the loop each point has the smallest root of its characteristic polynomial. -/
theorem final_root : (final m c (Proc.devRef .tc main_v82_3) : FVec Ideal S8x2048 .f32) (ix2 b i)
    = ((root (det (Spec.scaled (covAt v m c b i))) : ℝ) : EReal) := by
  rw [final_v82_3]
  exact root_at (entry_det hv hn b i) (det_scaled_le (cov_symm _ _ _ _))

theorem final_rows : Holds (final m c (Proc.devRef .tc main_v98)) b i (Spec.rows (covAt v m c b i)) := by
  rw [final_v98_eq,
    final_v89_eq,
    final_keeps m c (r := main_v65) (by decide +kernel) (by decide +kernel) (by decide +kernel),
    final_keeps m c (r := main_v39) (by decide +kernel) (by decide +kernel) (by decide +kernel),
    entry_v39_eq]
  exact cofactors_at (shifted_at (entry_scaled hv hn b i) (final_root hv hn b i))

theorem final_eigenvector (a : Fin 3) : (final m c (Proc.devRef .tc main_v127) : FVec Ideal S8x2048x3 .f32) (ix3 b i a)
    = ((eigenvector (covAt v m c b i) a : ℝ) : EReal) := by
  rw [final_v127_eq,
    final_v119_eq,
    final_v101_eq]
  exact units_at (longest_at (final_rows hv hn b i) (lengths_at (final_rows hv hn b i))) a

/-- The oriented normal of each point. -/
theorem final_normals (a : Fin 3) : (final m c (Proc.devRef .tc main_v137) : FVec Ideal S8x2048x3 .f32) (ix3 b i a)
    = ((normals (v b) (listed m c b) i a : ℝ) : EReal) := by
  rw [final_v137_eq,
    final_v133_eq,
    final_keeps m c (r := main_v12) (by decide +kernel) (by decide +kernel) (by decide +kernel),
    oriented_at (final_eigenvector hv hn b i) (signs_at (entry_offsets hv b i) (final_eigenvector hv hn b i)) a]
  unfold normals normal along nbhd
  rw [(hn b i).sum_near]
  rfl

/-- The covariance of the neighbours' normals. -/
theorem final_ncov (a a' : Fin 3) : (final m c (Proc.devRef .tc main_v149) : FVec Ideal S8x2048x9 .f32) (ix3 b i (flat a a'))
    = ((ncov (normals (v b) (listed m c b)) (nbhd (v b) (listed m c b) i) a a' : ℝ) : EReal) := by
  have hg : ∀ k a, (final m c (Proc.devRef .tc main_v139) : FVec Ideal S8x2048x16x3 .f32) (ix4 b i k a)
      = ((normals (v b) (listed m c b) (listed m c b i k.castSucc) a : ℝ) : EReal) := by
    intro k a
    rw [final_v139_eq,
      final_keeps m c (r := main_indices) (by decide +kernel) (by decide +kernel) (by decide +kernel),
      gathered_at _ _ k a _ (entry_indices m c b i k)]
    exact final_normals hv hn b _ a
  rw [final_v149_eq,
    final_v145_eq,
    flats_at (centred_at hg) a a']
  unfold ncov mean
  rw [show nbhd (v b) (listed m c b) i = near (dist2 (v b) i) (dist2 (v b) i (listed m c b i 15)) from rfl,
    (hn b i).sum_near, (hn b i).sum_near, (hn b i).sum_near]

/-- The result. -/
theorem final_value (a a' : Fin 3) : (final m c (Proc.devRef .tc main_v154) : FVec Ideal S8x2048x9 .f32) (ix3 b i (flat a a'))
    = Spec.result (v b) (listed m c b) i a a' := by
  rw [final_v154_eq]
  exact normed_at (final_ncov hv hn b i) a a'

end Value

end Cert.ReferenceIdeal.Read
-- ==== Proof.PreFacts.lean ====
module
public import proofs.«01_k».proof.Pre_no_ties
public import proofs.«01_k».proof.Proof.RefStages
public import proofs.«01_k».proof.Proof.Sorted
public import proofs.«01_k».proof.Proof.Coe
public import Idealize.ShloMosaic.Lib.ReduceAll
public import Idealize.ShloMosaic.Lib.Pipeline.Value

/-! # What the precondition says

  Each point's seventeen greatest negated distances are strictly decreasing; and so every coordinate is a real number. -/

@[expose] public section

set_option maxRecDepth 16384

noncomputable section

open Idealize.ShloMosaic Idealize.ShloMosaic.Pointwise Cert.Spec

namespace Cert.Pre_no_ties

variable [Facts]
open Facts

variable {x : FVec Ideal S8x2048x3 .f32} (h : fn (F := Ideal) x = fun _ => 1#1)
instance : Subsingleton S_.Idx := ⟨fun _ _ => funext fun q => q.elim0⟩

include h

/-- The predicate, over the reference's own distances. -/
theorem holds : Host.reduce IntOp.andi (cmpf .ogt
        (extractStridedSlice S8x2048x16 ![0, 0, 0] (Host.topK S8x2048x17 2 (FloatOps.cmpfTotal .gt)
          (Cert.ReferenceIdeal.Stage.negDist x) sliceFits_S8x2048x2048_S8x2048x17).1 slices_S8x2048x17_S8x2048x16_0_0_0)
        (extractStridedSlice S8x2048x16 ![0, 0, 1] (Host.topK S8x2048x17 2 (FloatOps.cmpfTotal .gt)
          (Cert.ReferenceIdeal.Stage.negDist x) sliceFits_S8x2048x2048_S8x2048x17).1 slices_S8x2048x17_S8x2048x16_0_0_1))
        (constantI S_ 1 1#1) reducesTo_S8x2048x16_S_d0_1_2 h_S_ (fun q => q.elim0) = 1#1 :=
  congrFun h fun q => q.elim0

/-- The seventeen greatest negated distances decrease strictly. -/
theorem decreasing (b : Fin 8) (i : Fin 2048) (k : Fin 16) :
    line (Cert.ReferenceIdeal.Stage.negDist x) b i (rank17 (line (Cert.ReferenceIdeal.Stage.negDist x) b i) k.succ)
      < line (Cert.ReferenceIdeal.Stage.negDist x) b i (rank17 (line (Cert.ReferenceIdeal.Stage.negDist x) b i) k.castSucc) := by
  have e := Host.reduce_andi_all _ _ _ _ _ (holds h) (ix3 b i k)
  have h0 : extractStridedSlice S8x2048x16 ![0, 0, 0] (Host.topK S8x2048x17 2 (FloatOps.cmpfTotal .gt)
      (Cert.ReferenceIdeal.Stage.negDist x) sliceFits_S8x2048x2048_S8x2048x17).1 slices_S8x2048x17_S8x2048x16_0_0_0 (ix3 b i k)
      = line (Cert.ReferenceIdeal.Stage.negDist x) b i (rank17 (line (Cert.ReferenceIdeal.Stage.negDist x) b i) k.castSucc) := by
    rw [extractStridedSlice_apply _ _ _ _ (ix3 b i k.castSucc) fun q => by
      match q with
      | ⟨0, _⟩ => exact (Nat.zero_add _).symm
      | ⟨1, _⟩ => exact (Nat.zero_add _).symm
      | ⟨2, _⟩ => exact (Nat.zero_add _).symm]
    exact topK_value (n := 17) (by decide) _ _ b i k.castSucc
  have h1 : extractStridedSlice S8x2048x16 ![0, 0, 1] (Host.topK S8x2048x17 2 (FloatOps.cmpfTotal .gt)
      (Cert.ReferenceIdeal.Stage.negDist x) sliceFits_S8x2048x2048_S8x2048x17).1 slices_S8x2048x17_S8x2048x16_0_0_1 (ix3 b i k)
      = line (Cert.ReferenceIdeal.Stage.negDist x) b i (rank17 (line (Cert.ReferenceIdeal.Stage.negDist x) b i) k.succ) := by
    rw [extractStridedSlice_apply _ _ _ _ (ix3 b i k.succ) fun q => by
      match q with
      | ⟨0, _⟩ => exact (Nat.zero_add _).symm
      | ⟨1, _⟩ => exact (Nat.zero_add _).symm
      | ⟨2, _⟩ => exact Nat.add_comm _ _]
    exact topK_value (n := 17) (by decide) _ _ b i k.succ
  have e : greater _ _ = 1#1 := e
  rw [h0, h1] at e
  exact (greater_eq_one _ _).1 e

omit h in
/-- From a point with an infinite coordinate every squared distance is infinite. -/
theorem far {b : Fin 8} {i : Fin 2048} {a : Fin 3} (hx : x (ix3 b i a) = ⊤ ∨ x (ix3 b i a) = ⊥) (m : Fin 2048) :
    line (Cert.ReferenceIdeal.Stage.negDist x) b i m = ⊥ := by
  have hs : ∀ y z : EReal, y = ⊤ ∨ y = ⊥ → (y - z) * (y - z) = ⊤ := by
    rintro y z (rfl | rfl) <;> induction z using EReal.rec <;> simp
  have h0 : ∀ y : EReal, 0 ≤ y * y := fun y => by
    rcases le_total 0 y with hy | hy
    · exact mul_nonneg hy hy
    · simpa using mul_nonneg (EReal.neg_nonneg.mpr hy) (EReal.neg_nonneg.mpr hy)
  show Cert.ReferenceIdeal.Stage.negDist x (ix3 b i m) = ⊥
  pointwise [Cert.ReferenceIdeal.Stage.negDist]
  rw [EReal.neg_eq_bot_iff, ← top_le_iff, ← hs _ (x (ix3 b m a)) hx]
  exact Finset.single_le_sum (f := fun a => (x (ix3 b i a) - x (ix3 b m a)) * (x (ix3 b i a) - x (ix3 b m a)))
    (fun a _ => h0 _) (Finset.mem_univ a)

/-- So every coordinate is real: from a point with an infinite one all distances would tie. -/
theorem real (b : Fin 8) (i : Fin 2048) (a : Fin 3) : ∃ r : ℝ, x (ix3 b i a) = (r : EReal) := by
  have hd := decreasing h b i 0
  have hx : ¬(x (ix3 b i a) = ⊤ ∨ x (ix3 b i a) = ⊥) := fun hx => by
    rw [far hx, far hx] at hd
    exact lt_irrefl _ hd
  rw [not_or] at hx
  exact ⟨(x (ix3 b i a)).toReal, (EReal.coe_toReal hx.1 hx.2).symm⟩

end Cert.Pre_no_ties
-- ==== Proof.Algebra.lean ====
module
public import proofs.«01_k».proof.Defs
public import proofs.«01_k».proof.Proof.KernelRun
public import proofs.«01_k».proof.Proof.KernelValue
public import proofs.«01_k».proof.Proof.RefValue
public import proofs.«01_k».proof.Proof.PreFacts
public import proofs.«01_k».proof.Proof.Gen.Pre_no_ties
public import proofs.«01_k».proof.Proof.Frames

/-! # The equation

  On clouds without ties, the kernel and the reference both end with the same array. -/

@[expose] public section

noncomputable section

namespace Cert.Proof

open Idealize.ShloMosaic Idealize.ShloMosaic.TcCoe Idealize.SL.Sem Cert.Spec

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Every column of the result is an entry of the 3 by 3 matrix. -/
theorem flat_onto (j : Fin 9) : ∃ a a' : Fin 3, j = Cert.ReferenceIdeal.Stage.flat a a' :=
  ⟨⟨j.val / 3, by omega⟩, ⟨j.val % 3, by omega⟩, Fin.ext (by show j.val = 3 * (j.val / 3) + j.val % 3; omega)⟩

/-- The two results agree, entry by entry. -/
theorem agree (ρ : Dev Cert.KernelIdeal.nD → PrngReg) (c : Dev Cert.KernelIdeal.nD)
    (hp : Cert.Pre_no_ties.fn (F := Ideal) (Cert.ReferenceIdeal.Read.cloud m' c) = fun _ => 1#1)
    (he : Cert.ReferenceIdeal.Read.cloud m' c = Cert.KernelIdeal.Arrays.arg m c) :
    (Cert.ReferenceIdeal.Read.final m' c (Proc.devRef .tc Cert.ReferenceIdeal.main_v154) : FVec Ideal Cert.ReferenceIdeal.S8x2048x9 .f32)
      = (Cert.KernelIdeal.Gen.W5 m ρ c (Proc.devRef .tc Cert.KernelIdeal.main_v4)
          : FVec Ideal Cert.KernelIdeal.S8x2048x9 .f32) := by
  choose r hr using Cert.Pre_no_ties.real hp
  have hv : ∀ b i a, Cert.ReferenceIdeal.Read.cloud m' c (ix3 b i a) = ((r b i a : ℝ) : EReal) := hr
  have hn : ∀ b i, Nearest (dist2 (r b) i) (Cert.ReferenceIdeal.Read.listed m' c b i) := fun b i =>
    nearest_rank (Cert.ReferenceIdeal.Stage.negDist_at (v := r b) (hv b))
      (Cert.Pre_no_ties.decreasing hp b i)
  refine funext fun (j : Cert.KernelIdeal.S8x2048x9.Idx) => ?_
  obtain ⟨a, a', ha⟩ := flat_onto (j 2)
  have hj : j = ix3 (j 0) (j 1) (Cert.ReferenceIdeal.Stage.flat a a') := (eq_ix3 j).trans (congrArg (ix3 (j 0) (j 1)) ha)
  rw [hj]
  exact (Cert.ReferenceIdeal.Read.final_value (v := r) hv hn (j 0) (j 1) a a').trans
    (Cert.KernelIdeal.Arrays.kernel_value (v := r) ρ
      (fun b i a => (congrFun he _).symm.trans (hv b i a)) hn (j 0) (j 1) a a').symm

/-- The kernel and the reference return the same array. -/
theorem algebraic : Cert.algebraic_KernelIdeal_ReferenceIdeal_pre_no_ties := by
  intro m g m' g' hp he
  refine ⟨fun c => Cert.KernelIdeal.Gen.W5 m g c (Proc.devRef .tc Cert.KernelIdeal.main_v4),
    Cert.KernelIdeal.Arrays.run_value m g, ?_⟩
  refine (θ_run Cert.ReferenceIdeal.defs _ _).mono (fun r h c => ?_) (Cert.ReferenceIdeal.Value.run_fold (F := Ideal) m' g')
  refine ⟨?_, (h c Cert.ReferenceIdeal.main_arg0 rfl).trans (final_arg m' c)⟩
  rw [h c Cert.ReferenceIdeal.main_v154 rfl, Cert.ReferenceIdeal.Read.final_eq]
  exact agree m m' g c (by rw [show Cert.ReferenceIdeal.Read.cloud m' c = _ from he c]; exact hp c) (he c)

end Cert.Proof
-- ==== Proof.lean ====
module

public import proofs.«01_k».proof.Defs
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim :=
  ⟨Cert.Kernel.Gen.facts, Cert.KernelIdeal.Gen.facts, Cert.ReferenceIdeal.Gen.facts,
    Cert.Pre_no_ties.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, preserves, algebraic⟩

end Cert.Proof

end
